-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_attention [hPre_finite_attention : Cert.Pre_finite_attention.Facts] (m : (ℓ : Loc Cert.KernelIdeal.nD Cert.KernelIdeal.τ Cert.KernelIdeal.sig) → Buf (Elt Ideal) ℓ) : Prop :=
  ∀ c : Dev Cert.KernelIdeal.nD,
    (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_attention [hPre_finite_attention : Cert.Pre_finite_attention.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_attention [hKernelIdeal : Cert.KernelIdeal.Facts] [hPre_finite_attention : Cert.Pre_finite_attention.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_attention m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_attention [hReferenceIdeal : Cert.ReferenceIdeal.Facts] [hPre_finite_attention : Cert.Pre_finite_attention.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_attention m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale2" .f32 0x3E0293EE#32 (((Real.sqrt 128)⁻¹ * (Real.log 2)⁻¹ : ℝ) : EReal)

def algebraic_KernelIdeal_ReferenceIdeal_pre_finite_attention [hKernelIdeal : Cert.KernelIdeal.Facts] [hReferenceIdeal : Cert.ReferenceIdeal.Facts] [hPre_finite_attention : Cert.Pre_finite_attention.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_attention m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_attention : Cert.Pre_finite_attention.Facts),
    quiescent_Kernel (hKernel := hKernel)
    ∧ quiescent_KernelIdeal (hKernelIdeal := hKernelIdeal)
    ∧ quiescent_KernelIdeal_pre_finite_attention (hKernelIdeal := hKernelIdeal) (hPre_finite_attention := hPre_finite_attention)
    ∧ quiescent_ReferenceIdeal (hReferenceIdeal := hReferenceIdeal)
    ∧ quiescent_ReferenceIdeal_pre_finite_attention (hReferenceIdeal := hReferenceIdeal) (hPre_finite_attention := hPre_finite_attention)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_attention (hKernelIdeal := hKernelIdeal) (hReferenceIdeal := hReferenceIdeal) (hPre_finite_attention := hPre_finite_attention)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_attention.lean ====
abbrev S2x16384x512 : Shape := ⟨3, ![2, 16384, 512]⟩
abbrev S2x16384x128 : Shape := ⟨3, ![2, 16384, 128]⟩
abbrev S2x256x192 : Shape := ⟨3, ![2, 256, 192]⟩
abbrev S8 : Shape := ⟨1, ![8]⟩
abbrev S2x1024x128 : Shape := ⟨3, ![2, 1024, 128]⟩
abbrev S32768x1024 : Shape := ⟨2, ![32768, 1024]⟩
abbrev S32768x512 : Shape := ⟨2, ![32768, 512]⟩
abbrev S1x1024 : Shape := ⟨2, ![1, 1024]⟩
abbrev S1024x4864 : Shape := ⟨2, ![1024, 4864]⟩
abbrev S512x2048 : Shape := ⟨2, ![512, 2048]⟩
abbrev S512x1024 : Shape := ⟨2, ![512, 1024]⟩
abbrev S1024x1024 : Shape := ⟨2, ![1024, 1024]⟩
abbrev S_ : Shape := ⟨0, ![]⟩

class Facts : Prop where
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S2x16384x128 : S_.BroadcastsInDim S2x16384x128 (![] : Fin 0 → Fin S2x16384x128.rank)
  reducesTo_S2x16384x128_S_d0_1_2 : S2x16384x128.ReducesTo [0, 1, 2] S_
  bcast_S_S2x256x192 : S_.BroadcastsInDim S2x256x192 (![] : Fin 0 → Fin S2x256x192.rank)
  reducesTo_S2x256x192_S_d0_1_2 : S2x256x192.ReducesTo [0, 1, 2] S_
  bcast_S_S8 : S_.BroadcastsInDim S8 (![] : Fin 0 → Fin S8.rank)
  reducesTo_S8_S_d0 : S8.ReducesTo [0] S_
  bcast_S_S2x1024x128 : S_.BroadcastsInDim S2x1024x128 (![] : Fin 0 → Fin S2x1024x128.rank)
  reducesTo_S2x1024x128_S_d0_1_2 : S2x1024x128.ReducesTo [0, 1, 2] S_

variable [Facts]

def fn_part1 {F : FTy → Type} [FloatOps F] (main_arg5 : FVec F S2x16384x512 .f32) (main_arg6 : FVec F S2x1024x128 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S2x16384x512 .f32 := Host.absf main_arg5
  let main_cst_6 : FVec F S_ .f32 := constant S_ .f32 0x7F800000#32
  let main_v20 : FVec F S2x16384x512 .f32 := broadcastInDim S2x16384x512 ![] bcast_S_S2x16384x512 main_cst_6
  let main_v21 : IVec S2x16384x512 1 := cmpf .olt main_v19 main_v20
  let main_c_7 : IVec S_ 1 := constantI S_ 1 1#1
  let main_v22 : IVec S_ 1 := (fun x v => Host.reduce IntOp.andi x v reducesTo_S2x16384x512_S_d0_1_2 h_S_) main_v21 main_c_7
  let main_v23 : IVec S_ 1 := andi main_v18 main_v22
  let main_v24 : FVec F S2x1024x128 .f32 := Host.absf main_arg6
  let main_cst_8 : FVec F S_ .f32 := constant S_ .f32 0x7F800000#32
  let main_v25 : FVec F S2x1024x128 .f32 := broadcastInDim S2x1024x128 ![] bcast_S_S2x1024x128 main_cst_8
  let main_v26 : IVec S2x1024x128 1 := cmpf .olt main_v24 main_v25
  let main_c_9 : IVec S_ 1 := constantI S_ 1 1#1
  let main_v27 : IVec S_ 1 := (fun x v => Host.reduce IntOp.andi x v reducesTo_S2x1024x128_S_d0_1_2 h_S_) main_v26 main_c_9
  let main_v28 : IVec S_ 1 := andi main_v23 main_v27
  main_v28

def fn {F : FTy → Type} [FloatOps F] (main_arg0 : FVec F S2x16384x512 .f32) (main_arg1 : FVec F S2x16384x128 .f32) (main_arg2 : FVec F S2x16384x128 .f32) (main_arg3 : FVec F S2x256x192 .f32) (main_arg4 : FVec F S8 .f32) (main_arg5 : FVec F S2x16384x512 .f32) (main_arg6 : FVec F S2x1024x128 .f32) (main_arg7 : FVec F S2x1024x128 .f32) (main_arg8 : FVec F S32768x1024 .f32) (main_arg9 : FVec F S32768x512 .f32) (main_arg10 : FVec F S1x1024 .f32) (main_arg11 : FVec F S1024x4864 .bf16) (main_arg12 : FVec F S512x2048 .bf16) (main_arg13 : FVec F S512x1024 .bf16) (main_arg14 : FVec F S512x1024 .bf16) (main_arg15 : FVec F S1024x1024 .bf16) (main_arg16 : FVec F S1x1024 .f32) : IVec S_ 1 :=
  let main_v0 : FVec F S2x16384x512 .f32 := Host.absf main_arg0
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_c : IVec S_ 1 := constantI S_ 1 1#1
  let main_v3 : IVec S_ 1 := (fun x v => Host.reduce IntOp.andi x v reducesTo_S2x16384x512_S_d0_1_2 h_S_) main_v2 main_c
  let main_v4 : FVec F S2x16384x128 .f32 := Host.absf main_arg1
  let main_cst_0 : FVec F S_ .f32 := constant S_ .f32 0x7F800000#32
  let main_v5 : FVec F S2x16384x128 .f32 := broadcastInDim S2x16384x128 ![] bcast_S_S2x16384x128 main_cst_0
  let main_v6 : IVec S2x16384x128 1 := cmpf .olt main_v4 main_v5
  let main_c_1 : IVec S_ 1 := constantI S_ 1 1#1
  let main_v7 : IVec S_ 1 := (fun x v => Host.reduce IntOp.andi x v reducesTo_S2x16384x128_S_d0_1_2 h_S_) main_v6 main_c_1
  let main_v8 : IVec S_ 1 := andi main_v3 main_v7
  let main_v9 : FVec F S2x256x192 .f32 := Host.absf main_arg3
  let main_cst_2 : FVec F S_ .f32 := constant S_ .f32 0x7F800000#32
  let main_v10 : FVec F S2x256x192 .f32 := broadcastInDim S2x256x192 ![] bcast_S_S2x256x192 main_cst_2
  let main_v11 : IVec S2x256x192 1 := cmpf .olt main_v9 main_v10
  let main_c_3 : IVec S_ 1 := constantI S_ 1 1#1
  let main_v12 : IVec S_ 1 := (fun x v => Host.reduce IntOp.andi x v reducesTo_S2x256x192_S_d0_1_2 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_arg6 main_v13 main_v16
-- ==== Kernel.lean ====
abbrev S2x16384x512 : Shape := ⟨3, ![2, 16384, 512]⟩
abbrev S2x16384x128 : Shape := ⟨3, ![2, 16384, 128]⟩
abbrev S2x256x192 : Shape := ⟨3, ![2, 256, 192]⟩
abbrev S8 : Shape := ⟨1, ![8]⟩
abbrev S2x1024x128 : Shape := ⟨3, ![2, 1024, 128]⟩
abbrev S32768x1024 : Shape := ⟨2, ![32768, 1024]⟩
abbrev S32768x512 : Shape := ⟨2, ![32768, 512]⟩
abbrev S1x1024 : Shape := ⟨2, ![1, 1024]⟩
abbrev S1024x4864 : Shape := ⟨2, ![1024, 4864]⟩
abbrev S512x2048 : Shape := ⟨2, ![512, 2048]⟩
abbrev S512x1024 : Shape := ⟨2, ![512, 1024]⟩
abbrev S1024x1024 : Shape := ⟨2, ![1024, 1024]⟩
abbrev S_ : Shape := ⟨0, ![]⟩
abbrev S2x16384x2x1x64 : Shape := ⟨5, ![2, 16384, 2, 1, 64]⟩
abbrev S2x16384x2x2x64 : Shape := ⟨5, ![2, 16384, 2, 2, 64]⟩
abbrev S2x16384x256 : Shape := ⟨3, ![2, 16384, 256]⟩
abbrev S2x4 : Shape := ⟨2, ![2, 4]⟩
abbrev S2x4x64 : Shape := ⟨3, ![2, 4, 64]⟩
abbrev S2x256 : Shape := ⟨2, ![2, 256]⟩
abbrev S2x256x1 : Shape := ⟨3, ![2, 256, 1]⟩
abbrev S1x512x512 : Shape := ⟨3, ![1, 512, 512]⟩
abbrev S1x512x256 : Shape := ⟨3, ![1, 512, 256]⟩
abbrev S1x128x256 : Shape := ⟨3, ![1, 128, 256]⟩
abbrev S1x1024x128 : Shape := ⟨3, ![1, 1024, 128]⟩
abbrev S512x512 : Shape := ⟨2, ![512, 512]⟩
abbrev S128x256 : Shape := ⟨2, ![128, 256]⟩
abbrev S512x256 : Shape := ⟨2, ![512, 256]⟩
abbrev S640x256 : Shape := ⟨2, ![640, 256]⟩
abbrev S1x192 : Shape := ⟨2, ![1, 192]⟩
abbrev S192x256 : Shape := ⟨2, ![192, 256]⟩
abbrev S192x128 : Shape := ⟨2, ![192, 128]⟩
abbrev S1x64x512 : Shape := ⟨3, ![1, 64, 512]⟩
abbrev S64x512 : Shape := ⟨2, ![64, 512]⟩
abbrev S64x128 : Shape := ⟨2, ![64, 128]⟩
abbrev S256x128 : Shape := ⟨2, ![256, 128]⟩
abbrev S256x192 : Shape := ⟨2, ![256, 192]⟩
abbrev S1x256x192 : Shape := ⟨3, ![1, 256, 192]⟩
abbrev S1x256x1 : Shape := ⟨3, ![1, 256, 1]⟩
abbrev S256x1 : Shape := ⟨2, ![256, 1]⟩
abbrev S1x256x512 : Shape := ⟨3, ![1, 256, 512]⟩
abbrev S256x512 : Shape := ⟨2, ![256, 512]⟩
abbrev S1x256x128 : Shape := ⟨3, ![1, 256, 128]⟩
abbrev S256x256 : Shape := ⟨2, ![256, 256]⟩
abbrev S256x1024 : Shape := ⟨2, ![256, 1024]⟩
abbrev S256 : Shape := ⟨1, ![256]⟩

abbrev nBuf : Space → Nat
  | .hbm => 35
  | .vmem => 31
  | .smem => 0
  | _ => 0

abbrev bufTy : (tb : Table) → Fin (tcTables nBuf tb) → BufTy
  | .hbm, ⟨0, _⟩ => ⟨S2x16384x512, .f32⟩
  | .hbm, ⟨1, _⟩ => ⟨S2x16384x128, .f32⟩
  | .hbm, ⟨2, _⟩ => ⟨S2x16384x128, .f32⟩
  | .hbm, ⟨3, _⟩ => ⟨S2x256x192, .f32⟩
  | .hbm, ⟨4, _⟩ => ⟨S8, .f32⟩
  | .hbm, ⟨5, _⟩ => ⟨S2x16384x512, .f32⟩
  | .hbm, ⟨6, _⟩ => ⟨S2x1024x128, .f32⟩
  | .hbm, ⟨7, _⟩ => ⟨S2x1024x128, .f32⟩
  | .hbm, ⟨8, _⟩ => ⟨S32768x1024, .f32⟩
  | .hbm, ⟨9, _⟩ => ⟨S32768x512, .f32⟩
  | .hbm, ⟨10, _⟩ => ⟨S1x1024, .f32⟩
  | .hbm, ⟨11, _⟩ => ⟨S1024x4864, .bf16⟩
  | .hbm, ⟨12, _⟩ => ⟨S512x2048, .bf16⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S1x1024, .f32⟩
  | .hbm, ⟨17, _⟩ => ⟨S_, .f32⟩
  | .hbm, ⟨18, _⟩ => ⟨S2x16384x512, .f32⟩
  | .hbm, ⟨19, _⟩ => ⟨S2x16384x512, .f32⟩
  | .hbm, ⟨20, _⟩ => ⟨S2x16384x512, .bf16⟩
  | .hbm, ⟨21, _⟩ => ⟨S2x16384x128, .bf16⟩
  | .hbm, ⟨22, _⟩ => ⟨S2x16384x2x1x64, .bf16⟩
  | .hbm, ⟨23, _⟩ => ⟨S2x16384x2x2x64, .bf16⟩
  | .hbm, ⟨24, _⟩ => ⟨S2x16384x256, .bf16⟩
  | .hbm, ⟨25, _⟩ => ⟨S2x16384x128, .bf16⟩
  | .hbm, ⟨26, _⟩ => ⟨S2x16384x2x1x64, .bf16⟩
  | .hbm, ⟨27, _⟩ => ⟨S2x16384x2x2x64, .bf16⟩
  | .hbm, ⟨28, _⟩ => ⟨S2x16384x256, .bf16⟩
  | .hbm, ⟨29, _⟩ => ⟨S2x4, .f32⟩
  | .hbm, ⟨30, _⟩ => ⟨S2x4x64, .f32⟩
  | .hbm, ⟨31, _⟩ => ⟨S2x256, .f32⟩
  | .hbm, ⟨32, _⟩ => ⟨S2x256x1, .f32⟩
  | .hbm, ⟨33, _⟩ => ⟨S2x16384x512, .bf16⟩
  | .hbm, ⟨34, _⟩ => ⟨S32768x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x128x256, .bf16⟩
  | .local _ .vmem, ⟨9, _⟩ => ⟨S1x128x256, .bf16⟩
  | .local _ .vmem, ⟨10, _⟩ => ⟨S2x256x192, .f32⟩
  | .local _ .vmem, ⟨11, _⟩ => ⟨S2x256x1, .f32⟩
  | .local _ .vmem, ⟨12, _⟩ => ⟨S1x512x512, .bf16⟩
  | .local _ .vmem, ⟨13, _⟩ => ⟨S1x512x512, .bf16⟩
  | .local _ .vmem, ⟨14, _⟩ => ⟨S1x1024x128, .f32⟩
  | .local _ .vmem, ⟨15, _⟩ => ⟨S1x1024x128, .f32⟩
  | .local _ .vmem, ⟨16, _⟩ => ⟨S1x1024x128, .f32⟩
  | .local _ .vmem, ⟨17, _⟩ => ⟨S1x1024x128, .f32⟩
  | .local _ .vmem, ⟨18, _⟩ => ⟨S512x1024, .f32⟩
  | .local _ .vmem, ⟨19, _⟩ => ⟨S512x1024, .f32⟩
  | .local _ .vmem, ⟨20, _⟩ => ⟨S512x512, .f32⟩
  | .local _ .vmem, ⟨21, _⟩ => ⟨S512x512, .f32⟩
  | .local _ .vmem, ⟨22, _⟩ => ⟨S1x1024, .f32⟩
  | .local _ .vmem, ⟨23, _⟩ => ⟨S1024x4864, .bf16⟩
  | .local _ .vmem, ⟨24, _⟩ => ⟨S512x2048, .bf16⟩
  | .local _ .vmem, ⟨25, _⟩ => ⟨S512x1024, .bf16⟩
  | .local _ .vmem, ⟨26, _⟩ => ⟨S512x1024, .bf16⟩
  | .local _ .vmem, ⟨27, _⟩ => ⟨S1024x1024, .bf16⟩
  | .local _ .vmem, ⟨28, _⟩ => ⟨S1x1024, .f32⟩
  | .local _ .vmem, ⟨29, _⟩ => ⟨S512x1024, .f32⟩
  | .local _ .vmem, ⟨30, _⟩ => ⟨S512x1024, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x256x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x4864 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== KernelIdeal.lean ====
variable {F : FTy → Type} [FloatOps F] [Named F]
def κ : String → Option EReal := fun
  | "mask" => some ⊥
  | "scale2" => some (((Real.sqrt 128)⁻¹ * (Real.log 2)⁻¹ : ℝ) : EReal)
  | _ => none
-- ==== ReferenceIdeal.lean ====
abbrev S2x16384x512 : Shape := ⟨3, ![2, 16384, 512]⟩
abbrev S2x16384x128 : Shape := ⟨3, ![2, 16384, 128]⟩
abbrev S2x256x192 : Shape := ⟨3, ![2, 256, 192]⟩
abbrev S8 : Shape := ⟨1, ![8]⟩
abbrev S2x1024x128 : Shape := ⟨3, ![2, 1024, 128]⟩
abbrev S32768x1024 : Shape := ⟨2, ![32768, 1024]⟩
abbrev S32768x512 : Shape := ⟨2, ![32768, 512]⟩
abbrev S1x1024 : Shape := ⟨2, ![1, 1024]⟩
abbrev S1024x4864 : Shape := ⟨2, ![1024, 4864]⟩
abbrev S512x2048 : Shape := ⟨2, ![512, 2048]⟩
abbrev S512x1024 : Shape := ⟨2, ![512, 1024]⟩
abbrev S1024x1024 : Shape := ⟨2, ![1024, 1024]⟩
abbrev S2x16384x2x4x64 : Shape := ⟨5, ![2, 16384, 2, 4, 64]⟩
abbrev S2x16384x2x64 : Shape := ⟨4, ![2, 16384, 2, 64]⟩
abbrev S2x256x64x2x4x64 : Shape := ⟨6, ![2, 256, 64, 2, 4, 64]⟩
abbrev S_ : Shape := ⟨0, ![]⟩
abbrev S2x16512x2x64 : Shape := ⟨4, ![2, 16512, 2, 64]⟩
abbrev S2x258x64x2x64 : Shape := ⟨5, ![2, 258, 64, 2, 64]⟩
abbrev S2x256x64x2x64 : Shape := ⟨5, ![2, 256, 64, 2, 64]⟩
abbrev S2x256x192x2x64 : Shape := ⟨5, ![2, 256, 192, 2, 64]⟩
abbrev S256x192 : Shape := ⟨2, ![256, 192]⟩
abbrev S256x1x1x1x192 : Shape := ⟨5, ![256, 1, 1, 1, 192]⟩
abbrev S2x4x64x192 : Shape := ⟨4, ![2, 4, 64, 192]⟩
abbrev S2x256x2x192x64x4 : Shape := ⟨6, ![2, 256, 2, 192, 64, 4]⟩
abbrev S2x256x2x4x64x192 : Shape := ⟨6, ![2, 256, 2, 4, 64, 192]⟩
abbrev S1x1x2x4x64x192 : Shape := ⟨6, ![1, 1, 2, 4, 64, 192]⟩
abbrev S2x4 : Shape := ⟨2, ![2, 4]⟩
abbrev S2x4x1x1 : Shape := ⟨4, ![2, 4, 1, 1]⟩
abbrev S2x256x2x4x64 : Shape := ⟨5, ![2, 256, 2, 4, 64]⟩
abbrev S2x256x2x4x64x1 : Shape := ⟨6, ![2, 256, 2, 4, 64, 1]⟩
abbrev S1x1x2x4x1x1 : Shape := ⟨6, ![1, 1, 2, 4, 1, 1]⟩
abbrev S2x256x2x64x4x64 : Shape := ⟨6, ![2, 256, 2, 64, 4, 64]⟩
abbrev S2x16384x4x128 : Shape := ⟨4, ![2, 16384, 4, 128]⟩
abbrev S2x256x4x128 : Shape := ⟨4, ![2, 256, 4, 128]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩
abbrev S2x16384x1024 : Shape := ⟨3, ![2, 16384, 1024]⟩
abbrev S2x16384 : Shape := ⟨2, ![2, 16384]⟩
abbrev S2x16384x1 : Shape := ⟨3, ![2, 16384, 1]⟩
abbrev S1x1x1024 : Shape := ⟨3, ![1, 1, 1024]⟩
abbrev S1024x3072 : Shape := ⟨2, ![1024, 3072]⟩
abbrev S2x16384x3072 : Shape := ⟨3, ![2, 16384, 3072]⟩
abbrev S2x16384x2048 : Shape := ⟨3, ![2, 16384, 2048]⟩
abbrev S2x16384x3x1024 : Shape := ⟨4, ![2, 16384, 3, 1024]⟩
abbrev S2x16384x1x1024 : Shape := ⟨4, ![2, 16384, 1, 1024]⟩

abbrev nBuf : Space → Nat
  | .hbm => 191
  | .vmem => 0
  | .smem => 0
  | _ => 0

abbrev hbmTy0_0 (i : Nat) : BufTy := match i % 128 with
  | 0 => ⟨S2x16384x512, .f32⟩
  | 1 => ⟨S2x16384x128, .f32⟩
  | 2 => ⟨S2x16384x128, .f32⟩
  | 3 => ⟨S2x256x192, .f32⟩
  | 4 => ⟨S8, .f32⟩
  | 5 => ⟨S2x16384x512, .f32⟩
  | 6 => ⟨S2x1024x128, .f32⟩
  | 7 => ⟨S2x1024x128, .f32⟩
  | 8 => ⟨S32768x1024, .f32⟩
  | 9 => ⟨S32768x512, .f32⟩
  | 10 => ⟨S1x1024, .f32⟩
  | 11 => ⟨S1024x4864, .bf16⟩
  | 12 => ⟨S512x2048, .bf16⟩
  | 13 => ⟨S512x1024, .bf16⟩
  | 14 => ⟨S512x1024, .bf16⟩
  | 15 => ⟨S1024x1024, .bf16⟩
  | 16 => ⟨S1x1024, .f32⟩
  | 17 => ⟨S2x16384x2x4x64, .f32⟩
  | 18 => ⟨S2x16384x2x64, .f32⟩
  | 19 => ⟨S2x16384x2x64, .f32⟩
  | 20 => ⟨S2x256x64x2x4x64, .f32⟩
  | 21 => ⟨S_, .i32⟩
  | 22 => ⟨S_, .f32⟩
  | 23 => ⟨S2x16512x2x64, .f32⟩
  | 24 => ⟨S2x258x64x2x64, .f32⟩
  | 25 => ⟨S_, .i32⟩
  | 26 => ⟨S_, .f32⟩
  | 27 => ⟨S2x16512x2x64, .f32⟩
  | 28 => ⟨S2x258x64x2x64, .f32⟩
  | 29 => ⟨S2x256x64x2x64, .f32⟩
  | 30 => ⟨S2x256x64x2x64, .f32⟩
  | 31 => ⟨S2x256x64x2x64, .f32⟩
  | 32 => ⟨S2x256x192x2x64, .f32⟩
  | 33 => ⟨S2x256x64x2x64, .f32⟩
  | 34 => ⟨S2x256x64x2x64, .f32⟩
  | 35 => ⟨S2x256x64x2x64, .f32⟩
  | 36 => ⟨S2x256x192x2x64, .f32⟩
  | 37 => ⟨S256x192, .i32⟩
  | 38 => ⟨S_, .i32⟩
  | 39 => ⟨S256x192, .i32⟩
  | 40 => ⟨S256x192, .i32⟩
  | 41 => ⟨S_, .i32⟩
  | 42 => ⟨S256x192, .i32⟩
  | 43 => ⟨S256x192, .i32⟩
  | 44 => ⟨S256x192, .i32⟩
  | 45 => ⟨S256x192, .i32⟩
  | 46 => ⟨S_, .i32⟩
  | 47 => ⟨S256x192, .i32⟩
  | 48 => ⟨S256x192, .i1⟩
  | 49 => ⟨S256x1x1x1x192, .i1⟩
  | 50 => ⟨S2x4x64x192, .f32⟩
  | 51 => ⟨S2x256x2x192x64x4, .f32⟩
  | 52 => ⟨S2x256x2x4x64x192, .f32⟩
  | 53 => ⟨S_, .f32⟩
  | 54 => ⟨S2x256x2x4x64x192, .f32⟩
  | 55 => ⟨S2x256x2x4x64x192, .f32⟩
  | 56 => ⟨S1x1x2x4x64x192, .f32⟩
  | 57 => ⟨S2x256x2x4x64x192, .f32⟩
  | 58 => ⟨S2x256x2x4x64x192, .f32⟩
  | 59 => ⟨S_, .f32⟩
  | 60 => ⟨S_, .f32⟩
  | 61 => ⟨S2x256x2x4x64x192, .i1⟩
  | 62 => ⟨S2x256x2x4x64x192, .f32⟩
  | 63 => ⟨S2x256x2x4x64x192, .f32⟩
  | 64 => ⟨S2x4, .f32⟩
  | 65 => ⟨S2x4x1x1, .f32⟩
  | 66 => ⟨S_, .f32⟩
  | 67 => ⟨S2x256x2x4x64, .f32⟩
  | 68 => ⟨S2x256x2x4x64x1, .f32⟩
  | 69 => ⟨S1x1x2x4x1x1, .f32⟩
  | 70 => ⟨S2x256x2x4x64x1, .f32⟩
  | 71 => ⟨S2x256x2x4x64x1, .f32⟩
  | 72 => ⟨S2x256x2x4x64x192, .f32⟩
  | 73 => ⟨S2x256x2x4x64x192, .f32⟩
  | 74 => ⟨S2x256x2x4x64x192, .f32⟩
  | 75 => ⟨S_, .f32⟩
  | 76 => ⟨S2x256x2x4x64, .f32⟩
  | 77 => ⟨S2x256x2x4x64x1, .f32⟩
  | 78 => ⟨S1x1x2x4x1x1, .f32⟩
  | 79 => ⟨S2x256x2x4x64x1, .f32⟩
  | 80 => ⟨S2x256x2x4x64x1, .f32⟩
  | 81 => ⟨S2x256x2x4x64x1, .f32⟩
  | 82 => ⟨S2x256x2x4x64x1, .f32⟩
  | 83 => ⟨S2x256x2x4x64x192, .f32⟩
  | 84 => ⟨S2x256x2x4x64x192, .f32⟩
  | 85 => ⟨S2x256x2x64x4x64, .f32⟩
  | 86 => ⟨S2x256x64x2x4x64, .f32⟩
  | 87 => ⟨S2x16384x512, .f32⟩
  | 88 => ⟨S2x16384x4x128, .f32⟩
  | 89 => ⟨S2x256x4x128, .f32⟩
  | 90 => ⟨S2x256x4x128, .f32⟩
  | 91 => ⟨S2x4x16384x256, .f32⟩
  | 92 => ⟨S_, .f32⟩
  | 93 => ⟨S_, .f32⟩
  | 94 => ⟨S2x4x16384x256, .f32⟩
  | 95 => ⟨S2x4x16384x256, .f32⟩
  | 96 => ⟨S_, .f32⟩
  | 97 => ⟨S2x4x16384, .f32⟩
  | 98 => ⟨S_, .f32⟩
  | 99 => ⟨S2x4x16384, .f32⟩
  | 100 => ⟨S2x4x16384, .f32⟩
  | 101 => ⟨S2x4x16384x1, .f32⟩
  | 102 => ⟨S2x4x16384x256, .f32⟩
  | 103 => ⟨S2x4x16384x256, .f32⟩
  | 104 => ⟨S2x4x16384x256, .f32⟩
  | 105 => ⟨S_, .f32⟩
  | 106 => ⟨S2x4x16384, .f32⟩
  | 107 => ⟨S2x4x16384x1, .f32⟩
  | 108 => ⟨S2x4x16384x256, .f32⟩
  | 109 => ⟨S2x4x16384x256, .f32⟩
  | 110 => ⟨S2x4x128x16384, .f32⟩
  | 111 => ⟨S2x16384x4x128, .f32⟩
  | 112 => ⟨S2x16384x512, .f32⟩
  | 113 => ⟨S2x16384x1024, .f32⟩
  | 114 => ⟨S2x16384x1024, .f32⟩
  | 115 => ⟨S_, .f32⟩
  | 116 => ⟨S2x16384, .f32⟩
  | 117 => ⟨S2x16384x1, .f32⟩
  | 118 => ⟨S_, .f32⟩
  | 119 => ⟨S2x16384x1, .f32⟩
  | 120 => ⟨S2x16384x1, .f32⟩
  | 121 => ⟨S_, .f32⟩
  | 122 => ⟨S2x16384x1, .f32⟩
  | 123 => ⟨S2x16384x1, .f32⟩
  | 124 => ⟨S2x16384x1, .f32⟩
  | 125 => ⟨S2x16384x1024, .f32⟩
  | 126 => ⟨S2x16384x1024, .f32⟩
  | 127 => ⟨S1x1x1024, .f32⟩
  | _ => ⟨S2x16384x512, .f32⟩

abbrev hbmTy0_1 (i : Nat) : BufTy := match i % 128 with
  | 0 => ⟨S2x16384x1024, .f32⟩
  | 1 => ⟨S2x16384x1024, .f32⟩
  | 2 => ⟨S1024x4864, .f32⟩
  | 3 => ⟨S1024x3072, .f32⟩
  | 4 => ⟨S2x16384x3072, .f32⟩
  | 5 => ⟨S2x16384x512, .f32⟩
  | 6 => ⟨S512x2048, .f32⟩
  | 7 => ⟨S2x16384x2048, .f32⟩
  | 8 => ⟨S2x16384x1024, .f32⟩
  | 9 => ⟨S2x16384x1024, .f32⟩
  | 10 => ⟨S2x16384x1024, .f32⟩
  | 11 => ⟨S2x16384x1024, .f32⟩
  | 12 => ⟨S_, .f32⟩
  | 13 => ⟨S2x16384x1024, .f32⟩
  | 14 => ⟨S2x16384x1024, .f32⟩
  | 15 => ⟨S_, .f32⟩
  | 16 => ⟨S2x16384x1024, .f32⟩
  | 17 => ⟨S2x16384x1024, .f32⟩
  | 18 => ⟨S2x16384x1024, .f32⟩
  | 19 => ⟨S2x16384x3072, .f32⟩
  | 20 => ⟨S2x16384x3072, .f32⟩
  | 21 => ⟨S_, .f32⟩
  | 22 => ⟨S2x16384x3072, .f32⟩
  | 23 => ⟨S2x16384x3072, .f32⟩
  | 24 => ⟨S_, .f32⟩
  | 25 => ⟨S2x16384x3072, .f32⟩
  | 26 => ⟨S2x16384x3072, .f32⟩
  | 27 => ⟨S2x16384x3x1024, .f32⟩
  | 28 => ⟨S2x16384x1x1024, .f32⟩
  | 29 => ⟨S2x16384x1024, .f32⟩
  | 30 => ⟨S512x1024, .f32⟩
  | 31 => ⟨S2x16384x1024, .f32⟩
  | 32 => ⟨S2x16384x1024, .f32⟩
  | 33 => ⟨S2x16384x1x1024, .f32⟩
  | 34 => ⟨S2x16384x1024, .f32⟩
  | 35 => ⟨S2x16384x1024, .f32⟩
  | 36 => ⟨S2x16384x1024, .f32⟩
  | 37 => ⟨S2x16384x1x1024, .f32⟩
  | 38 => ⟨S2x16384x1024, .f32⟩
  | 39 => ⟨S512x1024, .f32⟩
  | 40 => ⟨S2x16384x1024, .f32⟩
  | 41 => ⟨S2x16384x1024, .f32⟩
  | 42 => ⟨S2x16384x1024, .f32⟩
  | 43 => ⟨S1024x1024, .f32⟩
  | 44 => ⟨S2x16384x1024, .f32⟩
  | 45 => ⟨S2x16384x1024, .f32⟩
  | 46 => ⟨S_, .f32⟩
  | 47 => ⟨S2x16384, .f32⟩
  | 48 => ⟨S2x16384x1, .f32⟩
  | 49 => ⟨S_, .f32⟩
  | 50 => ⟨S2x16384x1, .f32⟩
  | 51 => ⟨S2x16384x1, .f32⟩
  | 52 => ⟨S_, .f32⟩
  | 53 => ⟨S2x16384x1, .f32⟩
  | 54 => ⟨S2x16384x1, .f32⟩
  | 55 => ⟨S2x16384x1, .f32⟩
  | 56 => ⟨S2x16384x1024, .f32⟩
  | 57 => ⟨S2x16384x1024, .f32⟩
  | 58 => ⟨S1x1x1024, .f32⟩
  | 59 => ⟨S2x16384x1024, .f32⟩
  | 60 => ⟨S2x16384x1024, .f32⟩
  | 61 => ⟨S2x16384x1024, .f32⟩
  | 62 => ⟨S32768x1024, .f32⟩
  | _ => ⟨S2x16384x512, .f32⟩

abbrev hbmTy (i : Nat) : BufTy := match i / 128 with
  | 0 => hbmTy0_0 i
  | 1 => hbmTy0_1 i
  | _ => ⟨S2x16384x512, .f32⟩

abbrev bufTy : (tb : Table) → Fin (tcTables nBuf tb) → BufTy
  | .hbm, ⟨i, _⟩ => hbmTy i
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_call1_v0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_1 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_5 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_6 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_7 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_8 : Ref sig .tc := ⟨.hbm, 96, rfl⟩
abbrev main_v64 : Ref sig .tc := ⟨.hbm, 97, rfl⟩
abbrev main_cst_9 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_10 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_11 : Ref sig .tc := ⟨.hbm, 115, rfl⟩
abbrev main_v80 : Ref sig .tc := ⟨.hbm, 116, rfl⟩
abbrev main_v81 : Ref sig .tc := ⟨.hbm, 117, rfl⟩
abbrev main_cst_12 : Ref sig .tc := ⟨.hbm, 118, rfl⟩
abbrev main_v82 : Ref sig .tc := ⟨.hbm, 119, rfl⟩
abbrev main_v83 : Ref sig .tc := ⟨.hbm, 120, rfl⟩
abbrev main_cst_13 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_14 : Ref sig .tc := ⟨.hbm, 140, rfl⟩
abbrev main_v102 : Ref sig .tc := ⟨.hbm, 141, rfl⟩
abbrev main_v103 : Ref sig .tc := ⟨.hbm, 142, rfl⟩
abbrev main_cst_15 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_16 : Ref sig .tc := ⟨.hbm, 149, rfl⟩
abbrev main_v109 : Ref sig .tc := ⟨.hbm, 150, rfl⟩
abbrev main_v110 : Ref sig .tc := ⟨.hbm, 151, rfl⟩
abbrev main_cst_17 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_18 : Ref sig .tc := ⟨.hbm, 174, rfl⟩
abbrev main_v132 : Ref sig .tc := ⟨.hbm, 175, rfl⟩
abbrev main_v133 : Ref sig .tc := ⟨.hbm, 176, rfl⟩
abbrev main_cst_19 : Ref sig .tc := ⟨.hbm, 177, rfl⟩
abbrev main_v134 : Ref sig .tc := ⟨.hbm, 178, rfl⟩
abbrev main_v135 : Ref sig .tc := ⟨.hbm, 179, rfl⟩
abbrev main_cst_20 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩

abbrev nD : Nat := 1
abbrev τ : Topo := Topo.v7x

variable {F : FTy → Type} [FloatOps F]
-- ==== Kernel2.lean ====
abbrev S32768x1024 : Shape := ⟨2, ![32768, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 8
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S2816x1024, .bf16⟩
  | .hbm, ⟨6, _⟩ => ⟨S32768x1024, .f32⟩
  | .hbm, ⟨7, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![66], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32768x1024 : Shape := ⟨2, ![32768, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x5632 : Shape := ⟨2, ![32768, 5632]⟩
abbrev S32768x2816 : Shape := ⟨2, ![32768, 2816]⟩
abbrev S1024 : Shape := ⟨1, ![1024]⟩
abbrev S1024x1 : Shape := ⟨2, ![1024, 1]⟩
abbrev S1024x2816 : Shape := ⟨2, ![1024, 2816]⟩

abbrev nBuf : Space → Nat
  | .hbm => 106
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S2816x1024, .bf16⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S1024x5632, .f32⟩
  | .hbm, ⟨22, _⟩ => ⟨S32768x5632, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S2816x1024, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S_, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S1024x1024, .f32⟩
  | .hbm, ⟨57, _⟩ => ⟨S_, .f32⟩
  | .hbm, ⟨58, _⟩ => ⟨S1024, .f32⟩
  | .hbm, ⟨59, _⟩ => ⟨S1024x1, .f32⟩
  | .hbm, ⟨60, _⟩ => ⟨S_, .f32⟩
  | .hbm, ⟨61, _⟩ => ⟨S1024x1, .f32⟩
  | .hbm, ⟨62, _⟩ => ⟨S1024x1, .f32⟩
  | .hbm, ⟨63, _⟩ => ⟨S_, .f32⟩
  | .hbm, ⟨64, _⟩ => ⟨S1024x1, .f32⟩
  | .hbm, ⟨65, _⟩ => ⟨S1024x1, .f32⟩
  | .hbm, ⟨66, _⟩ => ⟨S1024x1, .f32⟩
  | .hbm, ⟨67, _⟩ => ⟨S1024x1024, .f32⟩
  | .hbm, ⟨68, _⟩ => ⟨S1024x1024, .f32⟩
  | .hbm, ⟨69, _⟩ => ⟨S1024x1024, .f32⟩
  | .hbm, ⟨70, _⟩ => ⟨S1024x1024, .f32⟩
  | .hbm, ⟨71, _⟩ => ⟨S1024x5632, .f32⟩
  | .hbm, ⟨72, _⟩ => ⟨S1024x5632, .f32⟩
  | .hbm, ⟨73, _⟩ => ⟨S1024x2816, .f32⟩
  | .hbm, ⟨74, _⟩ => ⟨S1024x2816, .f32⟩
  | .hbm, ⟨75, _⟩ => ⟨S1024x2816, .f32⟩
  | .hbm, ⟨76, _⟩ => ⟨S1024x2816, .f32⟩
  | .hbm, ⟨77, _⟩ => ⟨S_, .f32⟩
  | .hbm, ⟨78, _⟩ => ⟨S1024x2816, .f32⟩
  | .hbm, ⟨79, _⟩ => ⟨S1024x2816, .f32⟩
  | .hbm, ⟨80, _⟩ => ⟨S_, .f32⟩
  | .hbm, ⟨81, _⟩ => ⟨S1024x2816, .f32⟩
  | .hbm, ⟨82, _⟩ => ⟨S1024x2816, .f32⟩
  | .hbm, ⟨83, _⟩ => ⟨S1024x2816, .f32⟩
  | .hbm, ⟨84, _⟩ => ⟨S1024x2816, .f32⟩
  | .hbm, ⟨85, _⟩ => ⟨S2816x1024, .f32⟩
  | .hbm, ⟨86, _⟩ => ⟨S1024x1024, .f32⟩
  | .hbm, ⟨87, _⟩ => ⟨S1024x1024, .f32⟩
  | .hbm, ⟨88, _⟩ => ⟨S_, .f32⟩
  | .hbm, ⟨89, _⟩ => ⟨S1024, .f32⟩
  | .hbm, ⟨90, _⟩ => ⟨S1024x1, .f32⟩
  | .hbm, ⟨91, _⟩ => ⟨S_, .f32⟩
  | .hbm, ⟨92, _⟩ => ⟨S1024x1, .f32⟩
  | .hbm, ⟨93, _⟩ => ⟨S1024x1, .f32⟩
  | .hbm, ⟨94, _⟩ => ⟨S_, .f32⟩
  | .hbm, ⟨95, _⟩ => ⟨S1024x1, .f32⟩
  | .hbm, ⟨96, _⟩ => ⟨S1024x1, .f32⟩
  | .hbm, ⟨97, _⟩ => ⟨S1024x1, .f32⟩
  | .hbm, ⟨98, _⟩ => ⟨S1024x1024, .f32⟩
  | .hbm, ⟨99, _⟩ => ⟨S1024x1024, .f32⟩
  | .hbm, ⟨100, _⟩ => ⟨S1024x1024, .f32⟩
  | .hbm, ⟨101, _⟩ => ⟨S1024x1024, .f32⟩
  | .hbm, ⟨102, _⟩ => ⟨S_, .f32⟩
  | .hbm, ⟨103, _⟩ => ⟨S1024x1024, .f32⟩
  | .hbm, ⟨104, _⟩ => ⟨S1024x1024, .f32⟩
  | .hbm, ⟨105, _⟩ => ⟨S1024x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_cst_10 : Ref sig .tc := ⟨.hbm, 91, rfl⟩
abbrev main_v58 : Ref sig .tc := ⟨.hbm, 92, rfl⟩
abbrev main_v59 : Ref sig .tc := ⟨.hbm, 93, rfl⟩
abbrev main_cst_11 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_12 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩

abbrev nD : Nat := 1
abbrev τ : Topo := Topo.v7x

variable {F : FTy → Type} [FloatOps F]
-- ==== Kernel3.lean ====
abbrev S512x1024 : Shape := ⟨2, ![512, 1024]⟩
abbrev S1x1024 : Shape := ⟨2, ![1, 1024]⟩
abbrev S1024x1024 : Shape := ⟨2, ![1024, 1024]⟩
abbrev S2048x128 : Shape := ⟨2, ![2048, 128]⟩
abbrev S256x1024 : Shape := ⟨2, ![256, 1024]⟩
abbrev S1024x128 : Shape := ⟨2, ![1024, 128]⟩
abbrev S256 : Shape := ⟨1, ![256]⟩
abbrev S256x1 : Shape := ⟨2, ![256, 1]⟩
abbrev S256x128 : Shape := ⟨2, ![256, 128]⟩

abbrev nBuf : Space → Nat
  | .hbm => 5
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x1024, .bf16⟩
  | .hbm, ⟨3, _⟩ => ⟨S2048x128, .f32⟩
  | .hbm, ⟨4, _⟩ => ⟨S2048x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S512x1024 : Shape := ⟨2, ![512, 1024]⟩
abbrev S1x1024 : Shape := ⟨2, ![1, 1024]⟩
abbrev S1024x1024 : Shape := ⟨2, ![1024, 1024]⟩
abbrev S_ : Shape := ⟨0, ![]⟩
abbrev S512 : Shape := ⟨1, ![512]⟩
abbrev S512x1 : Shape := ⟨2, ![512, 1]⟩
abbrev S512x512 : Shape := ⟨2, ![512, 512]⟩
abbrev S2048x128 : Shape := ⟨2, ![2048, 128]⟩

abbrev nBuf : Space → Nat
  | .hbm => 24
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x1024, .bf16⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S1024x1024, .f32⟩
  | .hbm, ⟨19, _⟩ => ⟨S512x1024, .f32⟩
  | .hbm, ⟨20, _⟩ => ⟨S512x512, .f32⟩
  | .hbm, ⟨21, _⟩ => ⟨S512x512, .f32⟩
  | .hbm, ⟨22, _⟩ => ⟨S2048x128, .f32⟩
  | .hbm, ⟨23, _⟩ => ⟨S2048x128, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Block.lean ====
/-
  One half of the mixer's block, written once: the two halves of a grid point's 512 rows are the same function of what
  each loads, and within a half the four chunks of 64 rows, the two key heads and the four memory heads are the same
  functions again. `Block.out` is what a half stores; the modules that follow read it at an index.
-/
module

public import proofs.«01_k».proof.Proof.Gen.KernelIdeal.Value

@[expose] public section

noncomputable section

namespace Cert.Mix

open Cert.KernelIdeal Cert.KernelIdeal.Gen Idealize.ShloMosaic

variable {F : FTy → Type} [FloatOps F] [Named F]

/-- What one half of a block reads: the 640 rows of keys and of values (the 128 rows before the block, then its own 512),
    and the rows and weights the half loads by itself. `valid` says of each chunk which of its keys lie before the
    sequence's start, for the chunks where some can. -/
structure Loads (F : FTy → Type) [FloatOps F] [Named F] where
  keys : FVec F S640x256 .bf16
  vals : FVec F S640x256 .bf16
  valid : Fin 4 → Option (IVec S1x192 1)
  q : Fin 4 → Vec F S1x64x512 .bf16
  bias : Fin 2 → Vec F S1x256x192 .f32
  sink : Fin 2 → Vec F S1x256x1 .f32
  qm : Vec F S1x256x512 .bf16
  memK : Fin 4 → Vec F S1x256x128 .f32
  memV : Fin 4 → Vec F S1x256x128 .f32
  x1 : Vec F S256x1024 .f32
  y : Vec F S256x512 .f32
  gpre : Vec F S1x1024 .f32
  gate : Fin 3 → Vec F S1024x1024 .bf16
  glu : Fin 2 → Vec F S512x1024 .bf16
  wab : Vec F S512x1024 .bf16
  wmb : Vec F S512x1024 .bf16
  wo : Vec F S1024x1024 .bf16
  gpost : Vec F S1x1024 .f32

namespace Block

/-- Lane window `n … n+127` of a 512-lane row. -/
theorem slices_lanes {n : Nat} (h : n + 128 ≤ 512) : S64x512.Slices ![0, n] S64x128 :=
  ⟨rfl, fun a => match a with
    | ⟨0, _⟩ => by show 0 + 64 ≤ 64; omega
    | ⟨1, _⟩ => by show n + 128 ≤ 512; omega⟩

/-- The same window of a 256-row block of memory queries. -/
theorem slices_mem {n : Nat} (h : n + 128 ≤ 512) : S256x512.Slices ![0, n] S256x128 :=
  ⟨rfl, fun a => match a with
    | ⟨0, _⟩ => by show 0 + 256 ≤ 256; omega
    | ⟨1, _⟩ => by show n + 128 ≤ 512; omega⟩

/-- The 192 rows from row `n` of a block's 640. -/
theorem slices_band {n : Nat} (h : n + 192 ≤ 640) : S640x256.Slices ![n, 0] S192x256 :=
  ⟨rfl, fun a => match a with
    | ⟨0, _⟩ => by show n + 192 ≤ 640; omega
    | ⟨1, _⟩ => by show 0 + 256 ≤ 256; omega⟩

/-- One of a band's two 128-lane heads. -/
theorem slices_head {n : Nat} (h : n + 128 ≤ 256) : S192x256.Slices ![0, n] S192x128 :=
  ⟨rfl, fun a => match a with
    | ⟨0, _⟩ => by show 0 + 192 ≤ 192; omega
    | ⟨1, _⟩ => by show n + 128 ≤ 256; omega⟩

/-- The 64 rows from row `n` of a stack of four query heads. -/
theorem slices_rows {n : Nat} (h : n + 64 ≤ 256) : S256x128.Slices ![n, 0] S64x128 :=
  ⟨rfl, fun a => match a with
    | ⟨0, _⟩ => by show n + 64 ≤ 256; omega
    | ⟨1, _⟩ => by show 0 + 128 ≤ 128; omega⟩

/-- The first 64 of 128 lanes. -/
def low : IVec S64x128 1 := cmpi .slt (iota .tc S64x128 32 [1] iota_S64x128_d1_w32) (broadcast S64x128 64#32)

/-- A chunk's zeros. -/
def zeros : FVec F S64x128 .bf16 := broadcast S64x128 (Scalar.ofBits .bf16 0x0000#16)

/-- Head `2 m` of a chunk's queries in its own lanes, the others zero, … -/
def evenHead (q : FVec F S64x512 .bf16) (n : Nat) (h : n + 128 ≤ 512) : FVec F S64x128 .bf16 :=
  select low (extractStridedSlice S64x128 ![0, n] q (slices_lanes h)) zeros

/-- … and head `2 m + 1`. -/
def oddHead (q : FVec F S64x512 .bf16) (n : Nat) (h : n + 128 ≤ 512) : FVec F S64x128 .bf16 :=
  select low zeros (extractStridedSlice S64x128 ![0, n] q (slices_lanes h))

/-- The four query heads of key head `g`, one below the other. -/
def queries (q : FVec F S64x512 .bf16) (g : Fin 2) : FVec F S256x128 .bf16 :=
  concatenate S256x128 0
    [⟨S64x128, evenHead q (256 * g.val) (by omega)⟩, ⟨S64x128, oddHead q (256 * g.val) (by omega)⟩,
     ⟨S64x128, evenHead q (256 * g.val + 128) (by omega)⟩, ⟨S64x128, oddHead q (256 * g.val + 128) (by omega)⟩]
    concatenates_S64x128_S64x128_S64x128_S64x128_S256x128_d0

/-- Key head `g` of the 192 rows from row `n`. -/
def band (kf : FVec F S640x256 .bf16) (n : Nat) (h : n + 192 ≤ 640) (g : Fin 2) : FVec F S192x128 .bf16 :=
  extractStridedSlice S192x128 ![0, 128 * g.val] (extractStridedSlice S192x256 ![n, 0] kf (slices_band h))
    (slices_head (by omega))

/-- Scores with the keys before the sequence's start put out of the softmax. -/
def masked (v : Option (IVec S1x192 1)) (s : FVec F S256x192 .f32) : FVec F S256x192 .f32 :=
  match v with
  | none => s
  | some v => select (broadcastTo S256x192 (shapeCast S1x192 v shapeCasts_S1x192_S1x192) broadcasts_S1x192_S256x192) s
      (broadcast S256x192 (Named.named κ "mask" 0xF149F2CA#32))

/-- The scores of chunk `j` for key head `g`. -/
def scores (p : Fin 2) (L : Loads F) (j : Fin 4) (g : Fin 2) : FVec F S256x192 .f32 :=
  masked (L.valid j)
    (addf (matmul dot_S256x128_S192x128_S256x192_1_1_0_0_n_n none
        (queries (shapeCast S64x512 (L.q j) shapeCasts_S1x64x512_S64x512) g)
        (band L.keys (256 * p.val + 64 * j.val) (by omega) g) (constant S256x192 .f32 0x00000000#32))
      (shapeCast S256x192 (L.bias g) shapeCasts_S1x256x192_S256x192))

/-- The row maximum, the sink included. -/
def rowTop (s : FVec F S256x192 .f32) (t : FVec F S256x1 .f32) : FVec F S256x1 .f32 :=
  maximumf (shapeCast S256x1 (multiReduction .maximumf [1] S256 s 0xFF800000#32 reduces_S256x192_S256 (.inl rfl) rfl)
    shapeCasts_S256_S256x1) t

/-- The exponentials of a chunk's scores. -/
def rowExp (s : FVec F S256x192 .f32) (t : FVec F S256x1 .f32) : FVec F S256x192 .f32 :=
  exp (subf s (broadcastTo S256x192 (rowTop s t) broadcasts_S256x1_S256x192))

/-- The weights: the softmax with a sink. -/
def weights (s : FVec F S256x192 .f32) (t : FVec F S256x1 .f32) : FVec F S256x192 .bf16 :=
  truncf .bf16 (mulf (rowExp s t) (broadcastTo S256x192
    (divf (broadcast S256x1 (Scalar.ofBits .f32 0x3F800000#32))
      (addf (shapeCast S256x1 (multiReduction .add [1] S256 (rowExp s t) 0x00000000#32 reduces_S256x192_S256 (.inl rfl) rfl)
        shapeCasts_S256_S256x1) (exp (subf t (rowTop s t))))) broadcasts_S256x1_S256x192)) bitsLt_bf16_f32

/-- The four heads' outputs of chunk `j` for key head `g`, one below the other. -/
def headsOut (p : Fin 2) (L : Loads F) (j : Fin 4) (g : Fin 2) : FVec F S256x128 .f32 :=
  matmul dot_S256x192_S192x128_S256x128_1_0_0_1_n_n none
    (weights (scores p L j g) (shapeCast S256x1 (L.sink g) shapeCasts_S1x256x1_S256x1))
    (band L.vals (256 * p.val + 64 * j.val) (by omega) g) (constant S256x128 .f32 0x00000000#32)

/-- Two heads side by side: the low lanes of one, the high lanes of the next. -/
def pair (o : FVec F S256x128 .f32) (n : Nat) (h : n + 128 ≤ 256) : FVec F S64x128 .f32 :=
  select low (extractStridedSlice S64x128 ![n, 0] o (slices_rows (by omega)))
    (extractStridedSlice S64x128 ![n + 64, 0] o (slices_rows (by omega)))

/-- A chunk's eight heads side by side. -/
def chunkOut (p : Fin 2) (L : Loads F) (j : Fin 4) : FVec F S64x512 .f32 :=
  concatenate S64x512 1
    [⟨S64x128, pair (headsOut p L j 0) 0 (by omega)⟩, ⟨S64x128, pair (headsOut p L j 0) 128 (by omega)⟩,
     ⟨S64x128, pair (headsOut p L j 1) 0 (by omega)⟩, ⟨S64x128, pair (headsOut p L j 1) 128 (by omega)⟩]
    concatenates_S64x128_S64x128_S64x128_S64x128_S64x512_d1

/-- The window attention of the half's four chunks. -/
def attn (p : Fin 2) (L : Loads F) : FVec F S256x512 .f32 :=
  concatenate S256x512 0
    [⟨S64x512, chunkOut p L 0⟩, ⟨S64x512, chunkOut p L 1⟩, ⟨S64x512, chunkOut p L 2⟩, ⟨S64x512, chunkOut p L 3⟩]
    concatenates_S64x512_S64x512_S64x512_S64x512_S256x512_d0

/-- The scores of memory head `h`. -/
def memScores (L : Loads F) (h : Fin 4) : FVec F S256x256 .f32 :=
  matmul dot_S256x128_S256x128_S256x256_1_1_0_0_n_n none
    (extractStridedSlice S256x128 ![0, 128 * h.val] (shapeCast S256x512 L.qm shapeCasts_S1x256x512_S256x512) (slices_mem (by omega)))
    (truncf .bf16 (shapeCast S256x128 (L.memK h) shapeCasts_S1x256x128_S256x128) bitsLt_bf16_f32)
    (constant S256x256 .f32 0x00000000#32)

/-- The scaled exponentials of memory scores, base two. -/
def memExp (s : FVec F S256x256 .f32) : FVec F S256x256 .f32 :=
  exp2 (mulf (subf s (broadcastTo S256x256 (shapeCast S256x1
      (multiReduction .maximumf [1] S256 s 0xFF800000#32 reduces_S256x256_S256 (.inl rfl) rfl) shapeCasts_S256_S256x1)
      broadcasts_S256x1_S256x256))
    (broadcast S256x256 (Named.named κ "scale2" 0x3E0293EE#32)))

/-- The memory's softmax weights. -/
def memWeights (s : FVec F S256x256 .f32) : FVec F S256x256 .bf16 :=
  truncf .bf16 (mulf (memExp s) (broadcastTo S256x256
    (divf (broadcast S256x1 (Scalar.ofBits .f32 0x3F800000#32))
      (shapeCast S256x1 (multiReduction .add [1] S256 (memExp s) 0x00000000#32 reduces_S256x256_S256 (.inl rfl) rfl)
        shapeCasts_S256_S256x1)) broadcasts_S256x1_S256x256)) bitsLt_bf16_f32

/-- Memory head `h`'s output. -/
def memHead (L : Loads F) (h : Fin 4) : FVec F S256x128 .f32 :=
  matmul dot_S256x256_S256x128_S256x128_1_0_0_1_n_n none (memWeights (memScores L h))
    (truncf .bf16 (shapeCast S256x128 (L.memV h) shapeCasts_S1x256x128_S256x128) bitsLt_bf16_f32)
    (constant S256x128 .f32 0x00000000#32)

/-- The memory attention. -/
def mem (L : Loads F) : FVec F S256x512 .f32 :=
  concatenate S256x512 1
    [⟨S256x128, memHead L 0⟩, ⟨S256x128, memHead L 1⟩, ⟨S256x128, memHead L 2⟩, ⟨S256x128, memHead L 3⟩]
    concatenates_S256x128_S256x128_S256x128_S256x128_S256x512_d1

/-- A row divided by its root mean square and scaled. -/
def rms (x : FVec F S256x1024 .f32) (g : FVec F S1x1024 .f32) : FVec F S256x1024 .f32 :=
  mulf (mulf x (broadcastTo S256x1024
      (rsqrt (addf (divf (shapeCast S256x1
          (multiReduction .add [1] S256 (mulf x x) 0x00000000#32 reduces_S256x1024_S256 (.inl rfl) rfl) shapeCasts_S256_S256x1)
          (broadcast S256x1 (Scalar.ofBits .f32 0x44800000#32)))
        (broadcast S256x1 (Scalar.ofBits .f32 0x358637BD#32)))) broadcasts_S256x1_S256x1024))
    (broadcastTo S256x1024 g broadcasts_S1x1024_S256x1024)

/-- A product with a weight of 1024 rows … -/
def mm1024 (x : FVec F S256x1024 .f32) (w : FVec F S1024x1024 .bf16) : FVec F S256x1024 .f32 :=
  matmul dot_S256x1024_S1024x1024_S256x1024_1_0_0_1_n_n none (truncf .bf16 x bitsLt_bf16_f32) w
    (constant S256x1024 .f32 0x00000000#32)

/-- … and with one of 512. -/
def mm512 (x : FVec F S256x512 .f32) (w : FVec F S512x1024 .bf16) : FVec F S256x1024 .f32 :=
  matmul dot_S256x512_S512x1024_S256x1024_1_0_0_1_n_n none (truncf .bf16 x bitsLt_bf16_f32) w
    (constant S256x1024 .f32 0x00000000#32)

/-- The sigmoid, through `tanh`. -/
def sig (x : FVec F S256x1024 .f32) : FVec F S256x1024 .f32 :=
  addf (mulf (broadcast S256x1024 (Scalar.ofBits .f32 0x3F000000#32))
    (tanh (mulf (broadcast S256x1024 (Scalar.ofBits .f32 0x3F000000#32)) x)))
    (broadcast S256x1024 (Scalar.ofBits .f32 0x3F000000#32))

/-- The three branches under their gates. -/
def merged (p : Fin 2) (L : Loads F) : FVec F S256x1024 .f32 :=
  addf (addf (mulf (sig (mm1024 (rms L.x1 L.gpre) (L.gate 0))) (mm512 (attn p L) L.wab))
      (mulf (sig (mm1024 (rms L.x1 L.gpre) (L.gate 1))) (mulf (mm512 L.y (L.glu 0)) (sig (mm512 L.y (L.glu 1))))))
    (mulf (sig (mm1024 (rms L.x1 L.gpre) (L.gate 2))) (mm512 (mem L) L.wmb))

/-- What the half stores. -/
def out (p : Fin 2) (L : Loads F) : FVec F S256x1024 .f32 :=
  addf L.x1 (rms (mm1024 (merged p L) L.wo) L.gpost)

/-- The keys of chunk `lo` that lie in the sequence: key `k` of the chunk stands at position `512 i + lo − 128 + k`. -/
def validKeys (i lo : BitVec 32) : IVec S1x192 1 :=
  cmpi .sge (addi (iota .tc S1x192 32 [1] iota_S1x192_d1_w32)
    (broadcast S1x192 (Scalar.subi (Scalar.addi (Scalar.muli i 512#32) lo) 128#32))) (broadcast S1x192 0#32)

/-- A block's 640 rows: the 128 before it, then its own. -/
def rows640 (halo : Vec F S1x128x256 .bf16) (cur : Vec F S1x512x256 .bf16) : FVec F S640x256 .bf16 :=
  concatenate S640x256 0 [⟨S128x256, shapeCast S128x256 halo shapeCasts_S1x128x256_S128x256⟩,
    ⟨S512x256, shapeCast S512x256 cur shapeCasts_S1x512x256_S512x256⟩] concatenates_S128x256_S512x256_S640x256_d0

end Block

end Cert.Mix

end
-- ==== Proof.Pieces.lean ====
/-
  The two halves of a grid point's block are `Block.out` of what each loads: the run's two stores are the two pieces, so
  the block after the point, read at an index, is one of them.
-/
module

public import proofs.«01_k».proof.Proof.Block
public import Idealize.ShloMosaic.Lib.Pipeline.Value

@[expose] public section

noncomputable section

namespace Cert.Mix

open Cert.KernelIdeal Cert.KernelIdeal.Gen Idealize.ShloMosaic

variable {F : FTy → Type} [FloatOps F] [Named F]

/-- The offsets of a load of rows `n … n+k-1`, or of columns, stay inside the array. -/
theorem inb2 {a b s t n m : Nat} (h0 : n + s ≤ a) (h1 : m + t ≤ b) :
    ∀ d, (![n, m] : Fin 2 → Nat) d + (⟨2, ![s, t]⟩ : Shape).size d ≤ (⟨2, ![a, b]⟩ : Shape).size d := fun d =>
  match d with
  | ⟨0, _⟩ => h0
  | ⟨1, _⟩ => h1

/-- The same for an array of three axes. -/
theorem inb3 {a b c s t u n m l : Nat} (h0 : n + s ≤ a) (h1 : m + t ≤ b) (h2 : l + u ≤ c) :
    ∀ d, (![n, m, l] : Fin 3 → Nat) d + (⟨3, ![s, t, u]⟩ : Shape).size d ≤ (⟨3, ![a, b, c]⟩ : Shape).size d := fun d =>
  match d with
  | ⟨0, _⟩ => h0
  | ⟨1, _⟩ => h1
  | ⟨2, _⟩ => h2

/-- Every fourth row of a memory block from row `h`: head `h`'s rows. -/
theorem inb_head (h : Fin 4) : ∀ a, S1x256x128.size a = 0 ∨
    (![0, h.val, 0] : Fin 3 → Nat) a + (![1, 4, 1] : Fin 3 → Nat) a * (S1x256x128.size a - 1) < S1x1024x128.size a := by
  revert h; decide

/-- What half `p` of the block at grid point `i` loads of the point's input blocks. -/
def loads (p : Fin 2) (i : grid0.Coords) (x0 : Vec F S1x512x512 .bf16) (x1 : Vec F S1x512x256 .bf16) (x2 : Vec F S1x128x256 .bf16) (x3 : Vec F S1x512x256 .bf16) (x4 : Vec F S1x128x256 .bf16) (x5 : Vec F S2x256x192 .f32) (x6 : Vec F S2x256x1 .f32) (x7 : Vec F S1x512x512 .bf16) (x8 : Vec F S1x1024x128 .f32) (x9 : Vec F S1x1024x128 .f32) (x10 : Vec F S512x1024 .f32) (x11 : Vec F S512x512 .f32) (x12 : Vec F S1x1024 .f32) (x13 : Vec F S1024x4864 .bf16) (x14 : Vec F S512x2048 .bf16) (x15 : Vec F S512x1024 .bf16) (x16 : Vec F S512x1024 .bf16) (x17 : Vec F S1024x1024 .bf16) (x18 : Vec F S1x1024 .f32) : Loads F where
  keys := Block.rows640 (View.ld x2 (Rect.unit ![0, 0, 0] S1x128x256.size inb_S1x128x256_S1x128x256_0_0_0))
    (View.ld x1 (Rect.unit ![0, 0, 0] S1x512x256.size inb_S1x512x256_S1x512x256_0_0_0))
  vals := Block.rows640 (View.ld x4 (Rect.unit ![0, 0, 0] S1x128x256.size inb_S1x128x256_S1x128x256_0_0_0))
    (View.ld x3 (Rect.unit ![0, 0, 0] S1x512x256.size inb_S1x512x256_S1x512x256_0_0_0))
  valid := match p with
    | 0 => ![some (Block.validKeys (BitVec.ofNat 32 (i 1).val) 0#32), some (Block.validKeys (BitVec.ofNat 32 (i 1).val) 64#32), none, none]
    | 1 => fun _ => none
  q := fun j => View.ld x0 (Rect.unit ![0, 256 * p.val + 64 * j.val, 0] S1x64x512.size (inb3 (by omega) (by omega) (by omega)))
  bias := fun g => View.ld x5 (Rect.unit ![g.val, 0, 0] S1x256x192.size (inb3 (by omega) (by omega) (by omega)))
  sink := fun g => View.ld x6 (Rect.unit ![g.val, 0, 0] S1x256x1.size (inb3 (by omega) (by omega) (by omega)))
  qm := View.ld x7 (Rect.unit ![0, 256 * p.val, 0] S1x256x512.size (inb3 (by omega) (by omega) (by omega)))
  memK := fun h => fun x => x8 (LoadRect.idx ⟨![0, h.val, 0], S1x256x128.size, ![1, 4, 1], inb_head h⟩ x)
  memV := fun h => fun x => x9 (LoadRect.idx ⟨![0, h.val, 0], S1x256x128.size, ![1, 4, 1], inb_head h⟩ x)
  x1 := View.ld x10 (Rect.unit ![256 * p.val, 0] S256x1024.size (inb2 (by omega) (by omega)))
  y := View.ld x11 (Rect.unit ![256 * p.val, 0] S256x512.size (inb2 (by omega) (by omega)))
  gpre := View.ld x12 (Rect.unit ![0, 0] S1x1024.size inb_S1x1024_S1x1024_0_0)
  gate := fun k => View.ld x13 (Rect.unit ![0, 1792 + 1024 * k.val] S1024x1024.size (inb2 (by omega) (by omega)))
  glu := fun k => View.ld x14 (Rect.unit ![0, 1024 * k.val] S512x1024.size (inb2 (by omega) (by omega)))
  wab := View.ld x15 (Rect.unit ![0, 0] S512x1024.size inb_S512x1024_S512x1024_0_0)
  wmb := View.ld x16 (Rect.unit ![0, 0] S512x1024.size inb_S512x1024_S512x1024_0_0)
  wo := View.ld x17 (Rect.unit ![0, 0] S1024x1024.size inb_S1024x1024_S1024x1024_0_0)
  gpost := View.ld x18 (Rect.unit ![0, 0] S1x1024.size inb_S1x1024_S1x1024_0_0)

set_option maxRecDepth 50000 in
set_option maxHeartbeats 0 in
/-- The run's stores, last first: the second half's rows, then the first's. -/
theorem pieces (c : Dev nD) (i : grid0.Coords)
  (arg2 : Memref sig .tc .vmem S1x512x512 .bf16) (harg2 : arg2.IsWhole)
  (arg3 : Memref sig .tc .vmem S1x512x256 .bf16) (harg3 : arg3.IsWhole)
  (arg4 : Memref sig .tc .vmem S1x128x256 .bf16) (harg4 : arg4.IsWhole)
  (arg5 : Memref sig .tc .vmem S1x512x256 .bf16) (harg5 : arg5.IsWhole)
  (arg6 : Memref sig .tc .vmem S1x128x256 .bf16) (harg6 : arg6.IsWhole)
  (arg7 : Memref sig .tc .vmem S2x256x192 .f32) (harg7 : arg7.IsWhole)
  (arg8 : Memref sig .tc .vmem S2x256x1 .f32) (harg8 : arg8.IsWhole)
  (arg9 : Memref sig .tc .vmem S1x512x512 .bf16) (harg9 : arg9.IsWhole)
  (arg10 : Memref sig .tc .vmem S1x1024x128 .f32) (harg10 : arg10.IsWhole)
  (arg11 : Memref sig .tc .vmem S1x1024x128 .f32) (harg11 : arg11.IsWhole)
  (arg12 : Memref sig .tc .vmem S512x1024 .f32) (harg12 : arg12.IsWhole)
  (arg13 : Memref sig .tc .vmem S512x512 .f32) (harg13 : arg13.IsWhole)
  (arg14 : Memref sig .tc .vmem S1x1024 .f32) (harg14 : arg14.IsWhole)
  (arg15 : Memref sig .tc .vmem S1024x4864 .bf16) (harg15 : arg15.IsWhole)
  (arg16 : Memref sig .tc .vmem S512x2048 .bf16) (harg16 : arg16.IsWhole)
  (arg17 : Memref sig .tc .vmem S512x1024 .bf16) (harg17 : arg17.IsWhole)
  (arg18 : Memref sig .tc .vmem S512x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S512x1024 .f32) (harg21 : arg21.IsWhole)
    (x0 : Vec F S1x512x512 .bf16) (x1 : Vec F S1x512x256 .bf16) (x2 : Vec F S1x128x256 .bf16) (x3 : Vec F S1x512x256 .bf16) (x4 : Vec F S1x128x256 .bf16) (x5 : Vec F S2x256x192 .f32) (x6 : Vec F S2x256x1 .f32) (x7 : Vec F S1x512x512 .bf16) (x8 : Vec F S1x1024x128 .f32) (x9 : Vec F S1x1024x128 .f32) (x10 : Vec F S512x1024 .f32) (x11 : Vec F S512x512 .f32) (x12 : Vec F S1x1024 .f32) (x13 : Vec F S1024x4864 .bf16) (x14 : Vec F S512x2048 .bf16) (x15 : Vec F S512x1024 .bf16) (x16 : Vec F S512x1024 .bf16) (x17 : Vec F S1024x1024 .bf16) (x18 : Vec F S1x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18).1
      = [⟨Rect.unit ![256, 0] S256x1024.size inb_S512x1024_S256x1024_256_0,
          Block.out 1 (loads 1 i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) (arg14.view.read (Elt F) (harg14.unread x12)) (arg15.view.read (Elt F) (harg15.unread x13)) (arg16.view.read (Elt F) (harg16.unread x14)) (arg17.view.read (Elt F) (harg17.unread x15)) (arg18.view.read (Elt F) (harg18.unread x16)) (arg19.view.read (Elt F) (harg19.unread x17)) (arg20.view.read (Elt F) (harg20.unread x18)))⟩,
         ⟨Rect.unit ![0, 0] S256x1024.size inb_S512x1024_S256x1024_0_0,
          Block.out 0 (loads 0 i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) (arg10.view.read (Elt F) (harg10.unread x8)) (arg11.view.read (Elt F) (harg11.unread x9)) (arg12.view.read (Elt F) (harg12.unread x10)) (arg13.view.read (Elt F) (harg13.unread x11)) (arg14.view.read (Elt F) (harg14.unread x12)) (arg15.view.read (Elt F) (harg15.unread x13)) (arg16.view.read (Elt F) (harg16.unread x14)) (arg17.view.read (Elt F) (harg17.unread x15)) (arg18.view.read (Elt F) (harg18.unread x16)) (arg19.view.read (Elt F) (harg19.unread x17)) (arg20.view.read (Elt F) (harg20.unread x18)))⟩] := by
  rfl

end Cert.Mix

end
-- ==== Proof.LoadsRead.lean ====
/-
  What a half of a grid point's block loads, read at an index of the point's input blocks.
-/
module

public import proofs.«01_k».proof.Proof.Pieces
public import Idealize.ShloMosaic.Lib.Pointwise

@[expose] public section

noncomputable section

namespace Cert.Mix

open Cert.KernelIdeal Cert.KernelIdeal.Gen Idealize.ShloMosaic

section

variable {F : FTy → Type} [FloatOps F] [Named F]

/-- The block the grid point leaves, read in half `p`. -/
theorem out_at (c : Dev nD) (i : grid0.Coords)
  (arg2 : Memref sig .tc .vmem S1x512x512 .bf16) (harg2 : arg2.IsWhole)
  (arg3 : Memref sig .tc .vmem S1x512x256 .bf16) (harg3 : arg3.IsWhole)
  (arg4 : Memref sig .tc .vmem S1x128x256 .bf16) (harg4 : arg4.IsWhole)
  (arg5 : Memref sig .tc .vmem S1x512x256 .bf16) (harg5 : arg5.IsWhole)
  (arg6 : Memref sig .tc .vmem S1x128x256 .bf16) (harg6 : arg6.IsWhole)
  (arg7 : Memref sig .tc .vmem S2x256x192 .f32) (harg7 : arg7.IsWhole)
  (arg8 : Memref sig .tc .vmem S2x256x1 .f32) (harg8 : arg8.IsWhole)
  (arg9 : Memref sig .tc .vmem S1x512x512 .bf16) (harg9 : arg9.IsWhole)
  (arg10 : Memref sig .tc .vmem S1x1024x128 .f32) (harg10 : arg10.IsWhole)
  (arg11 : Memref sig .tc .vmem S1x1024x128 .f32) (harg11 : arg11.IsWhole)
  (arg12 : Memref sig .tc .vmem S512x1024 .f32) (harg12 : arg12.IsWhole)
  (arg13 : Memref sig .tc .vmem S512x512 .f32) (harg13 : arg13.IsWhole)
  (arg14 : Memref sig .tc .vmem S1x1024 .f32) (harg14 : arg14.IsWhole)
  (arg15 : Memref sig .tc .vmem S1024x4864 .bf16) (harg15 : arg15.IsWhole)
  (arg16 : Memref sig .tc .vmem S512x2048 .bf16) (harg16 : arg16.IsWhole)
  (arg17 : Memref sig .tc .vmem S512x1024 .bf16) (harg17 : arg17.IsWhole)
  (arg18 : Memref sig .tc .vmem S512x1024 .bf16) (harg18 : arg18.IsWhole)
  (arg19 : Memref sig .tc .vmem S1024x1024 .bf16) (harg19 : arg19.IsWhole)
  (arg20 : Memref sig .tc .vmem S1x1024 .f32) (harg20 : arg20.IsWhole)
  (arg21 : Memref sig .tc .vmem S512x1024 .f32) (harg21 : arg21.IsWhole)
    (x0 : Vec F S1x512x512 .bf16) (x1 : Vec F S1x512x256 .bf16) (x2 : Vec F S1x128x256 .bf16) (x3 : Vec F S1x512x256 .bf16) (x4 : Vec F S1x128x256 .bf16) (x5 : Vec F S2x256x192 .f32) (x6 : Vec F S2x256x1 .f32) (x7 : Vec F S1x512x512 .bf16) (x8 : Vec F S1x1024x128 .f32) (x9 : Vec F S1x1024x128 .f32) (x10 : Vec F S512x1024 .f32) (x11 : Vec F S512x512 .f32) (x12 : Vec F S1x1024 .f32) (x13 : Vec F S1024x4864 .bf16) (x14 : Vec F S512x2048 .bf16) (x15 : Vec F S512x1024 .bf16) (x16 : Vec F S512x1024 .bf16) (x17 : Vec F S1024x1024 .bf16) (x18 : Vec F S1x1024 .f32) (p : Fin 2) (r : Fin 256) (l : Fin 1024) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 (ix2 ⟨256 * p.val + r.val, by omega⟩ l)
      = Block.out p (loads p i x0 x1 x2 x3 x4 x5 x6 x7 x8 x9 x10 x11 x12 x13 x14 x15 x16 x17 x18) (ix2 r l) := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18), pieces]
  simp only [Memref.IsWhole.read_unread]
  have e : ∀ (n : Nat) (h : n + 256 ≤ 512) (k : Fin 512), k.val = n + r.val →
      (ix2 k l : S512x1024.Idx) = (Rect.unit (s := S512x1024) ![n, 0] S256x1024.size (inb2 (a := 512) (b := 1024) (s := 256) (t := 1024) h (by omega))).emb (ix2 r l) := fun n h k hk => by
    funext a
    match a with
    | 0 => exact Fin.ext (show k.val = n + 1 * r.val by omega)
    | 1 => exact Fin.ext (show l.val = 0 + 1 * l.val by omega)
  match p with
  | 1 =>
    rw [e 256 (by omega) ⟨256 * (1 : Fin 2).val + r.val, by omega⟩ (by simp)]
    exact View.canon_cons_emb _ _ _ _
  | 0 =>
    rw [View.canon_cons_of_not_mem]
    · rw [e 0 (by omega) ⟨256 * (0 : Fin 2).val + r.val, by omega⟩ (by simp)]
      exact View.canon_cons_emb _ _ _ _
    · intro hy
      have h0 : 256 ≤ 256 * 0 + r.val := ((Rect.mem_set_unit (inb := inb_S512x1024_S256x1024_256_0)).1 hy 0).1
      omega

end

variable (p : Fin 2) (i : grid0.Coords) (x0 : Vec Ideal S1x512x512 .bf16) (x1 : Vec Ideal S1x512x256 .bf16) (x2 : Vec Ideal S1x128x256 .bf16) (x3 : Vec Ideal S1x512x256 .bf16) (x4 : Vec Ideal S1x128x256 .bf16) (x5 : Vec Ideal S2x256x192 .f32) (x6 : Vec Ideal S2x256x1 .f32) (x7 : Vec Ideal S1x512x512 .bf16) (x8 : Vec Ideal S1x1024x128 .f32) (x9 : Vec Ideal S1x1024x128 .f32) (x10 : Vec Ideal S512x1024 .f32) (x11 : Vec Ideal S512x512 .f32) (x12 : Vec Ideal S1x1024 .f32) (x13 : Vec Ideal S1024x4864 .bf16) (x14 : Vec Ideal S512x2048 .bf16) (x15 : Vec Ideal S512x1024 .bf16) (x16 : Vec Ideal S512x1024 .bf16) (x17 : Vec Ideal S1024x1024 .bf16) (x18 : Vec Ideal S1x1024 .f32)

theorem loads_q (j : Fin 4) (a : Fin 64) (l : Fin 512) : (loads p i x0 x1 x2 x3 x4 x5 x6 x7 x8 x9 x10 x11 x12 x13 x14 x15 x16 x17 x18).q j (ix3 0 a l)
    = x0 (ix3 0 ⟨256 * p.val + 64 * j.val + a.val, by omega⟩ l) := by
  pointwise [loads]

theorem loads_keys (r : Fin 640) (l : Fin 256) : (loads p i x0 x1 x2 x3 x4 x5 x6 x7 x8 x9 x10 x11 x12 x13 x14 x15 x16 x17 x18).keys (ix2 r l)
    = if h : r.val < 128 then x2 (ix3 0 ⟨r.val, h⟩ l) else x1 (ix3 0 ⟨r.val - 128, by omega⟩ l) := by
  pointwise [loads, Block.rows640]

theorem loads_vals (r : Fin 640) (l : Fin 256) : (loads p i x0 x1 x2 x3 x4 x5 x6 x7 x8 x9 x10 x11 x12 x13 x14 x15 x16 x17 x18).vals (ix2 r l)
    = if h : r.val < 128 then x4 (ix3 0 ⟨r.val, h⟩ l) else x3 (ix3 0 ⟨r.val - 128, by omega⟩ l) := by
  pointwise [loads, Block.rows640]

theorem loads_bias (g : Fin 2) (r : Fin 256) (k : Fin 192) : (loads p i x0 x1 x2 x3 x4 x5 x6 x7 x8 x9 x10 x11 x12 x13 x14 x15 x16 x17 x18).bias g (ix3 0 r k) = x5 (ix3 g r k) := by
  pointwise [loads]

theorem loads_sink (g : Fin 2) (r : Fin 256) : (loads p i x0 x1 x2 x3 x4 x5 x6 x7 x8 x9 x10 x11 x12 x13 x14 x15 x16 x17 x18).sink g (ix3 0 r 0) = x6 (ix3 g r 0) := by
  pointwise [loads]

theorem loads_qm (r : Fin 256) (l : Fin 512) : (loads p i x0 x1 x2 x3 x4 x5 x6 x7 x8 x9 x10 x11 x12 x13 x14 x15 x16 x17 x18).qm (ix3 0 r l)
    = x7 (ix3 0 ⟨256 * p.val + r.val, by omega⟩ l) := by
  pointwise [loads]

theorem loads_memK (h : Fin 4) (n : Fin 256) (d : Fin 128) : (loads p i x0 x1 x2 x3 x4 x5 x6 x7 x8 x9 x10 x11 x12 x13 x14 x15 x16 x17 x18).memK h (ix3 0 n d)
    = x8 (ix3 0 ⟨4 * n.val + h.val, by omega⟩ d) := by
  show x8 _ = _
  congr 1
  funext a
  match a with
  | 0 => exact Fin.ext (by simp [LoadRect.idx])
  | 1 => exact Fin.ext (by simp [LoadRect.idx]; omega)
  | 2 => exact Fin.ext (by simp [LoadRect.idx])

theorem loads_memV (h : Fin 4) (n : Fin 256) (d : Fin 128) : (loads p i x0 x1 x2 x3 x4 x5 x6 x7 x8 x9 x10 x11 x12 x13 x14 x15 x16 x17 x18).memV h (ix3 0 n d)
    = x9 (ix3 0 ⟨4 * n.val + h.val, by omega⟩ d) :=
  loads_memK p i x0 x1 x2 x3 x4 x5 x6 x7 x9 x9 x10 x11 x12 x13 x14 x15 x16 x17 x18 h n d

theorem loads_x1 (r : Fin 256) (l : Fin 1024) : (loads p i x0 x1 x2 x3 x4 x5 x6 x7 x8 x9 x10 x11 x12 x13 x14 x15 x16 x17 x18).x1 (ix2 r l)
    = x10 (ix2 ⟨256 * p.val + r.val, by omega⟩ l) := by
  pointwise [loads]

theorem loads_y (r : Fin 256) (l : Fin 512) : (loads p i x0 x1 x2 x3 x4 x5 x6 x7 x8 x9 x10 x11 x12 x13 x14 x15 x16 x17 x18).y (ix2 r l)
    = x11 (ix2 ⟨256 * p.val + r.val, by omega⟩ l) := by
  pointwise [loads]

theorem loads_gpre (l : Fin 1024) : (loads p i x0 x1 x2 x3 x4 x5 x6 x7 x8 x9 x10 x11 x12 x13 x14 x15 x16 x17 x18).gpre (ix2 0 l) = x12 (ix2 0 l) := by
  pointwise [loads]

theorem loads_gate (n : Fin 3) (k l : Fin 1024) : (loads p i x0 x1 x2 x3 x4 x5 x6 x7 x8 x9 x10 x11 x12 x13 x14 x15 x16 x17 x18).gate n (ix2 k l)
    = x13 (ix2 k ⟨1792 + 1024 * n.val + l.val, by omega⟩) := by
  pointwise [loads]

theorem loads_glu (n : Fin 2) (k : Fin 512) (l : Fin 1024) : (loads p i x0 x1 x2 x3 x4 x5 x6 x7 x8 x9 x10 x11 x12 x13 x14 x15 x16 x17 x18).glu n (ix2 k l)
    = x14 (ix2 k ⟨1024 * n.val + l.val, by omega⟩) := by
  pointwise [loads]

theorem loads_wab (k : Fin 512) (l : Fin 1024) : (loads p i x0 x1 x2 x3 x4 x5 x6 x7 x8 x9 x10 x11 x12 x13 x14 x15 x16 x17 x18).wab (ix2 k l) = x15 (ix2 k l) := by
  pointwise [loads]

theorem loads_wmb (k : Fin 512) (l : Fin 1024) : (loads p i x0 x1 x2 x3 x4 x5 x6 x7 x8 x9 x10 x11 x12 x13 x14 x15 x16 x17 x18).wmb (ix2 k l) = x16 (ix2 k l) := by
  pointwise [loads]

theorem loads_wo (k l : Fin 1024) : (loads p i x0 x1 x2 x3 x4 x5 x6 x7 x8 x9 x10 x11 x12 x13 x14 x15 x16 x17 x18).wo (ix2 k l) = x17 (ix2 k l) := by
  pointwise [loads]

theorem loads_gpost (l : Fin 1024) : (loads p i x0 x1 x2 x3 x4 x5 x6 x7 x8 x9 x10 x11 x12 x13 x14 x15 x16 x17 x18).gpost (ix2 0 l) = x18 (ix2 0 l) := by
  pointwise [loads]

/-- The keys that are not put out of the softmax are those that stand in the sequence. -/
theorem loads_valid (j : Fin 4) (k : Fin 192) :
    (∀ w, (loads p i x0 x1 x2 x3 x4 x5 x6 x7 x8 x9 x10 x11 x12 x13 x14 x15 x16 x17 x18).valid j = some w → w (ix2 0 k) = 1#1)
      ↔ 128 ≤ 64 * (8 * (i 1).val + 4 * p.val + j.val) + k.val := by
  have hw : ∀ (n : Fin 32) (lo : Fin 2) (k : Fin 192),
      IntOp.cmpi .sge (IntOp.addi (BitVec.ofNat 32 k.val)
        (Scalar.subi (Scalar.addi (Scalar.muli (BitVec.ofNat 32 n.val) 512#32) (BitVec.ofNat 32 (64 * lo.val))) 128#32)) 0#32 = 1#1
      ↔ 128 ≤ 64 * (8 * n.val + lo.val) + k.val := by decide +kernel
  have hv : ∀ (lo : BitVec 32), Block.validKeys (BitVec.ofNat 32 (i 1).val) lo (ix2 0 k)
      = IntOp.cmpi .sge (IntOp.addi (BitVec.ofNat 32 k.val)
        (Scalar.subi (Scalar.addi (Scalar.muli (BitVec.ofNat 32 (i 1).val) 512#32) lo) 128#32)) 0#32 := fun lo => by
    pointwise [Block.validKeys]
  match p, j with
  | 0, 0 => simpa [loads, hv] using hw ⟨(i 1).val, (i 1).isLt⟩ 0 k
  | 0, 1 => simpa [loads, hv] using hw ⟨(i 1).val, (i 1).isLt⟩ 1 k
  | 0, 2 => simp [loads]; omega
  | 0, 3 => simp [loads]; omega
  | 1, j => simp [loads]; omega

end Cert.Mix

end
-- ==== Proof.Reals.lean ====
module

public import Idealize.ShloMosaic.PureOps.Ideal
public import Idealize.ShloMosaic.PureOps.Ideal.Laws
public import Idealize.ShloMosaic.Lib.ValueIdx

@[expose] public section

/-! The facts about extended reals that the two programs' values meet in: the two spellings of the logistic function,
    a softmax written with a reciprocal and with a quotient, and the base-2 exponential of a scaled difference. -/

noncomputable section

namespace Cert.Mix

open Idealize.ShloMosaic

/-- The number one half, as both programs print it. -/
abbrev half : EReal := ((1 / 2 : ℝ) : EReal)

/-- The logistic function through the hyperbolic tangent is the logistic function through the exponential,
    at the infinities too. -/
theorem sigmoid_tanh (x : EReal) :
    half * Ideal.tanh (half * x) + half = Ideal.div 1 (1 + Ideal.exp (-x)) := by
  induction x with
  | bot =>
    rw [EReal.coe_mul_bot_of_pos (by norm_num), Ideal.tanh_bot, EReal.neg_bot, Ideal.exp_top]
    rw [show (1 : EReal) + ⊤ = ⊤ from rfl, Ideal.div, if_neg (by simp), EReal.inv_top, mul_zero]
    rw [show (-1 : EReal) = ((-1 : ℝ) : EReal) from rfl, half, ← EReal.coe_mul, ← EReal.coe_add]
    norm_num
  | top =>
    rw [EReal.coe_mul_top_of_pos (by norm_num), Ideal.tanh_top, EReal.neg_top, Ideal.exp_bot]
    rw [add_zero, Ideal.div, if_neg (by simp), mul_one, half, ← EReal.coe_add]
    norm_num
  | coe r =>
    rw [half, ← EReal.coe_mul, Ideal.tanh_coe, ← EReal.coe_mul, ← EReal.coe_add, ← EReal.coe_neg, Ideal.exp_coe]
    rw [show (1 : EReal) = ((1 : ℝ) : EReal) from rfl, ← EReal.coe_add]
    have hp : (0 : ℝ) < 1 + Real.exp (-r) := by positivity
    rw [Ideal.div, if_neg (by exact_mod_cast hp.ne'), ← EReal.coe_inv, ← EReal.coe_mul]
    congr 1
    have h2 : Real.exp (-r) = Real.exp (-(r / 2)) * Real.exp (-(r / 2)) := by rw [← Real.exp_add]; congr 1; ring
    have h1 : Real.exp (r / 2) * Real.exp (-(r / 2)) = 1 := by rw [← Real.exp_add]; simp
    rw [Real.tanh_eq_sinh_div_cosh, Real.sinh_eq, Real.cosh_eq, show (1 / 2 : ℝ) * r = r / 2 by ring]
    have ha := Real.exp_pos (r / 2)
    have hb := Real.exp_pos (-(r / 2))
    rw [h2]
    generalize Real.exp (r / 2) = a at *
    generalize Real.exp (-(r / 2)) = b at *
    have : a ≠ 0 := ha.ne'
    field_simp
    nlinarith [h1]

/-- Dividing by a number that is not zero is multiplying by its reciprocal. -/
theorem mul_div_one (e d : EReal) (h : d ≠ 0) : e * Ideal.div 1 d = Ideal.div e d := by
  rw [Ideal.div, Ideal.div, if_neg h, if_neg h, one_mul]

theorem exp_nonneg (x : EReal) : 0 ≤ Ideal.exp x := by
  induction x with
  | bot => exact le_refl _
  | top => exact le_top
  | coe r => rw [Ideal.exp_coe]; exact_mod_cast (Real.exp_pos r).le

theorem exp_bot_sub (m : EReal) : Ideal.exp (⊥ - m) = 0 := by
  rw [sub_eq_add_neg, EReal.bot_add]; rfl

/-- The largest of finitely many numbers, none of them +∞, is not +∞. -/
theorem fold_max_ne_top {n : ℕ} (s : Fin n → EReal) (hs : ∀ k, s k ≠ ⊤) :
    (Finset.univ : Finset (Fin n)).fold max ⊥ s ≠ ⊤ := by
  have : (Finset.univ : Finset (Fin n)).fold max ⊥ s < ⊤ :=
    (Finset.fold_max_lt (b := ⊥) ⊤).2 ⟨bot_lt_top, fun k _ => lt_top_iff_ne_top.2 (hs k)⟩
  exact this.ne

/-! ## The softmax with a sink -/

section Sink

variable {n : ℕ}

/-- The row's maximum, the sink among its entries. -/
def sinkMax (s : Fin n → EReal) (t : EReal) : EReal := max ((Finset.univ : Finset (Fin n)).fold max ⊥ s) t

/-- The denominator. -/
def sinkDen (s : Fin n → EReal) (t : EReal) : EReal :=
  (∑ k, Ideal.exp (s k - sinkMax s t)) + Ideal.exp (t - sinkMax s t)

/-- The weight of entry `k`. -/
def sinkWeight (s : Fin n → EReal) (t : EReal) (k : Fin n) : EReal :=
  Ideal.div (Ideal.exp (s k - sinkMax s t)) (sinkDen s t)

/-- The weighted sum of the values. -/
def sinkSum (s : Fin n → EReal) (t : EReal) (v : Fin n → EReal) : EReal := ∑ k, sinkWeight s t k * v k

theorem sinkDen_ne_zero (s : Fin n → EReal) (t : ℝ) (hs : ∀ k, s k ≠ ⊤) : sinkDen s t ≠ 0 := by
  have hm : sinkMax s t ≠ ⊤ := by
    unfold sinkMax
    rcases max_choice ((Finset.univ : Finset (Fin n)).fold max ⊥ s) (t : EReal) with h | h <;> rw [h]
    · exact fold_max_ne_top s hs
    · exact EReal.coe_ne_top t
  have hb : sinkMax s t ≠ ⊥ := ne_bot_of_le_ne_bot (EReal.coe_ne_bot t) (le_max_right _ _)
  have h0 : (0 : EReal) ≤ ∑ k, Ideal.exp (s k - sinkMax s t) := Finset.sum_nonneg fun k _ => exp_nonneg _
  have h1 : (0 : EReal) < Ideal.exp ((t : EReal) - sinkMax s t) := by
    lift sinkMax s t to ℝ using ⟨hm, hb⟩ with M
    rw [← EReal.coe_sub, Ideal.exp_coe]
    exact_mod_cast Real.exp_pos _
  have : (0 : EReal) < sinkDen s t := lt_of_lt_of_le h1 (le_add_of_nonneg_left h0)
  exact this.ne'

/-- The weight through the denominator's reciprocal. -/
theorem sinkWeight_recip (s : Fin n → EReal) (t : ℝ) (hs : ∀ k, s k ≠ ⊤) (k : Fin n) :
    Ideal.exp (s k - sinkMax s t) * Ideal.div 1 (sinkDen s t) = sinkWeight s t k :=
  mul_div_one _ _ (sinkDen_ne_zero s t hs)

/-- An entry of −∞ weighs nothing, whatever its value is. -/
theorem sinkSum_congr (s : Fin n → EReal) (t : ℝ) (hs : ∀ k, s k ≠ ⊤) (v w : Fin n → EReal)
    (h : ∀ k, s k ≠ ⊥ → v k = w k) : sinkSum s t v = sinkSum s t w := by
  refine Finset.sum_congr rfl fun k _ => ?_
  by_cases hk : s k = ⊥
  · have : sinkWeight s t k = 0 := by
      rw [sinkWeight, hk, exp_bot_sub, Ideal.div, if_neg (sinkDen_ne_zero s t hs), zero_mul]
    rw [this, zero_mul, zero_mul]
  · rw [h k hk]

end Sink

/-! ## The scaled softmax -/

section Scaled

variable {n : ℕ}

/-- The row's maximum. -/
def rowMax (s : Fin n → EReal) : EReal := (Finset.univ : Finset (Fin n)).fold max ⊥ s

/-- The weight of entry `k`. -/
def softWeight (s : Fin n → EReal) (k : Fin n) : EReal :=
  Ideal.div (Ideal.exp (s k - rowMax s)) (∑ j, Ideal.exp (s j - rowMax s))

theorem rowMax_coe [NeZero n] (s : Fin n → ℝ) : ∃ M : ℝ, rowMax (fun k => (s k : EReal)) = M := by
  have ht := fold_max_ne_top (fun k => (s k : EReal)) fun k => EReal.coe_ne_top _
  have hb : rowMax (fun k => (s k : EReal)) ≠ ⊥ := by
    refine ne_bot_of_le_ne_bot (EReal.coe_ne_bot (s 0)) ?_
    exact (Finset.le_fold_max _).2 (Or.inr ⟨0, Finset.mem_univ _, le_refl _⟩)
  exact ⟨_, (EReal.coe_toReal ht hb).symm⟩

/-- Scaling every entry by a positive number scales the maximum. -/
theorem rowMax_scale (s : Fin n → EReal) (σ : ℝ) (hσ : 0 < σ) :
    rowMax (fun k => s k * (σ : EReal)) = rowMax s * (σ : EReal) := by
  have hm : Monotone fun x : EReal => x * (σ : EReal) := fun x y h =>
    mul_le_mul_of_nonneg_right h (by exact_mod_cast hσ.le)
  have := Finset.fold_hom (op := (max : EReal → EReal → EReal)) (op' := (max : EReal → EReal → EReal))
    (m := fun x : EReal => x * (σ : EReal)) (b := ⊥) (f := s) (s := Finset.univ) fun x y => (hm.map_max)
  simpa only [rowMax, EReal.bot_mul_coe_of_pos hσ] using this

/-- The two spellings of a scaled softmax on real entries: the base-2 exponential of a difference scaled by
    `σ / log 2`, over the reciprocal of the sum; and the softmax of the scaled entries. -/
theorem softWeight_exp2 [NeZero n] (s : Fin n → ℝ) (σ : ℝ) (hσ : 0 < σ) (k : Fin n) :
    Ideal.exp2 (((s k : EReal) - rowMax fun j => (s j : EReal)) * ((σ * (Real.log 2)⁻¹ : ℝ) : EReal))
        * Ideal.div 1 (∑ i, Ideal.exp2 (((s i : EReal) - rowMax fun j => (s j : EReal)) * ((σ * (Real.log 2)⁻¹ : ℝ) : EReal)))
      = softWeight (fun j => (s j : EReal) * (σ : EReal)) k := by
  obtain ⟨M, hM⟩ := rowMax_coe s
  have he : ∀ i, Ideal.exp2 (((s i : EReal) - rowMax fun j => (s j : EReal)) * ((σ * (Real.log 2)⁻¹ : ℝ) : EReal))
      = Ideal.exp ((s i : EReal) * (σ : EReal) - rowMax fun j => (s j : EReal) * (σ : EReal)) := fun i => by
    rw [rowMax_scale _ _ hσ, hM, ← EReal.coe_sub, ← EReal.coe_mul, Ideal.exp2_coe, ← EReal.coe_mul, ← EReal.coe_mul,
      ← EReal.coe_sub, Ideal.exp_coe]
    congr 1
    show (2 : ℝ) ^ ((s i - M) * (σ * (Real.log 2)⁻¹)) = _
    rw [Real.rpow_def_of_pos (by norm_num : (0 : ℝ) < 2)]
    congr 1
    have : Real.log 2 ≠ 0 := (Real.log_pos (by norm_num)).ne'
    field_simp
  simp only [he]
  refine mul_div_one _ _ (ne_of_gt ?_)
  have h1 : ∀ i, (0 : EReal) < Ideal.exp ((s i : EReal) * (σ : EReal) - rowMax fun j => (s j : EReal) * (σ : EReal)) := fun i => by
    rw [rowMax_scale _ _ hσ, hM, ← EReal.coe_mul, ← EReal.coe_mul, ← EReal.coe_sub, Ideal.exp_coe]
    exact_mod_cast Real.exp_pos _
  exact lt_of_lt_of_le (h1 k) (Finset.single_le_sum (f := fun i =>
    Ideal.exp ((s i : EReal) * (σ : EReal) - rowMax fun j => (s j : EReal) * (σ : EReal))) (fun i _ => (h1 i).le) (Finset.mem_univ k))

end Scaled

/-! ## Sums of products of real numbers -/

/-- A number that is neither infinity. -/
def IsReal (x : EReal) : Prop := ∃ r : ℝ, x = r

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

theorem IsReal.sum {n : ℕ} {f : Fin n → EReal} (h : ∀ k, IsReal (f k)) : IsReal (∑ k, f k) := by
  choose g hg using h
  refine ⟨∑ k, g k, ?_⟩
  rw [show f = fun k => (g k : EReal) from funext hg]
  exact (map_sum (⟨⟨Real.toEReal, EReal.coe_zero⟩, EReal.coe_add⟩ : ℝ →+ EReal) g Finset.univ).symm

theorem IsReal.ne_top {x : EReal} : IsReal x → x ≠ ⊤ := by rintro ⟨a, rfl⟩; exact EReal.coe_ne_top a

/-- A finite factor that is not negative comes out of a sum of products. -/
theorem sum_mul_factor {n : ℕ} (f g : Fin n → EReal) (c : ℝ) (hc : 0 ≤ c) :
    ∑ k, f k * (c : EReal) * g k = (∑ k, f k * g k) * (c : EReal) := by
  have h0 : (0 : EReal) ≤ (c : EReal) := by exact_mod_cast hc
  rw [show (∑ k, f k * g k) * (c : EReal) = ∑ k, f k * g k * (c : EReal) from
    map_sum (⟨⟨fun x : EReal => x * (c : EReal), zero_mul _⟩,
      fun x y => EReal.right_distrib_of_nonneg_of_ne_top h0 (EReal.coe_ne_top c) x y⟩ : EReal →+ EReal) _ _]
  exact Finset.sum_congr rfl fun k _ => by rw [mul_assoc, mul_comm (c : EReal), ← mul_assoc]

end Cert.Mix

end
-- ==== Proof.Rows.lean ====
/-
  The mixer, one position at a time, in extended reals: the window attention of a position's lane, the memory attention
  of one, and the row of the output that their rows, the input's and the recurrence's give. The kernel and the reference are each read
  as these functions.
-/
module

public import proofs.«01_k».proof.Proof.Reals
public import Idealize.ShloMosaic.Lib.Pointwise

@[expose] public section

noncomputable section

namespace Cert.Mix

open Idealize.ShloMosaic

/-- The logistic function. -/
def sigmoid (x : EReal) : EReal := Ideal.div 1 (1 + Ideal.exp (-x))

/-- A row divided by its root mean square and scaled. -/
def rmsRow (x g : Fin 1024 → EReal) (l : Fin 1024) : EReal :=
  x l * Ideal.rsqrt (Ideal.div (∑ k, x k * x k) (Ideal.ofBits .f32 0x44800000#32) + Ideal.ofBits .f32 0x358637BD#32) * g l

/-- A row times a matrix. -/
def rowMul {n : ℕ} (x : Fin n → EReal) (w : Fin n → Fin 1024 → EReal) (l : Fin 1024) : EReal := ∑ k, x k * w k l

/-- The weights of the merge. -/
structure MixWeights where
  gpre : Fin 1024 → EReal
  gate : Fin 3 → Fin 1024 → Fin 1024 → EReal
  glu : Fin 2 → Fin 512 → Fin 1024 → EReal
  wab : Fin 512 → Fin 1024 → EReal
  wmb : Fin 512 → Fin 1024 → EReal
  wo : Fin 1024 → Fin 1024 → EReal
  gpost : Fin 1024 → EReal

/-- The three branches of a row under their gates. -/
def mergedRow (W : MixWeights) (x : Fin 1024 → EReal) (attn y mem : Fin 512 → EReal) (l : Fin 1024) : EReal :=
  sigmoid (rowMul (rmsRow x W.gpre) (W.gate 0) l) * rowMul attn W.wab l
    + sigmoid (rowMul (rmsRow x W.gpre) (W.gate 1) l) * (rowMul y (W.glu 0) l * sigmoid (rowMul y (W.glu 1) l))
    + sigmoid (rowMul (rmsRow x W.gpre) (W.gate 2) l) * rowMul mem W.wmb l

/-- The mixer's row. -/
def mixRow (W : MixWeights) (x : Fin 1024 → EReal) (attn y mem : Fin 512 → EReal) (l : Fin 1024) : EReal :=
  x l + rmsRow (rowMul (mergedRow W x attn y mem) W.wo) W.gpost l

/-- The number one eighth, the attention's scale. -/
abbrev eighth : EReal := ((1 / 8 : ℝ) : EReal)

/-- The score of key `k`, −∞ where the key lies before the sequence's start. -/
def headScore (q : Fin 64 → EReal) (K : Fin 192 → Fin 64 → EReal) (bias : Fin 192 → EReal) (ok : Fin 192 → Prop)
    [DecidablePred ok] (k : Fin 192) : EReal :=
  if ok k then (∑ d, q d * K k d) * eighth + bias k else ⊥

/-- The score of a memory row. -/
def memScore (q : Fin 128 → EReal) (K : Fin 256 → Fin 128 → EReal) (m : Fin 256) : EReal :=
  (∑ d, q d * K m d) * (((Real.sqrt 128)⁻¹ : ℝ) : EReal)

/-- A memory head's value. -/
def memSum (q : Fin 128 → EReal) (K : Fin 256 → Fin 128 → EReal) (v : Fin 256 → EReal) : EReal :=
  ∑ m, softWeight (memScore q K) m * v m

/-- A score of finite numbers is not +∞. -/
theorem headScore_ne_top {q : Fin 64 → EReal} {K : Fin 192 → Fin 64 → EReal} {bias : Fin 192 → EReal} {ok : Fin 192 → Prop}
    [DecidablePred ok] (hq : ∀ d, IsReal (q d)) (hK : ∀ k, ok k → ∀ d, IsReal (K k d)) (hb : ∀ k, IsReal (bias k))
    (k : Fin 192) : headScore q K bias ok k ≠ ⊤ := by
  unfold headScore
  split
  · exact (((IsReal.sum fun d => (hq d).mul (hK k ‹_› d)).mul ⟨_, rfl⟩).add (hb k)).ne_top
  · exact bot_ne_top

/-! ## The mixer of whole arrays -/

/-- The arguments, as arrays of extended reals. -/
structure Args where
  q : (⟨3, ![2, 16384, 512]⟩ : Shape).Idx → EReal
  k : (⟨3, ![2, 16384, 128]⟩ : Shape).Idx → EReal
  v : (⟨3, ![2, 16384, 128]⟩ : Shape).Idx → EReal
  bias : (⟨3, ![2, 256, 192]⟩ : Shape).Idx → EReal
  sink : (⟨1, ![8]⟩ : Shape).Idx → EReal
  qm : (⟨3, ![2, 16384, 512]⟩ : Shape).Idx → EReal
  memK : (⟨3, ![2, 1024, 128]⟩ : Shape).Idx → EReal
  memV : (⟨3, ![2, 1024, 128]⟩ : Shape).Idx → EReal
  x1 : (⟨2, ![32768, 1024]⟩ : Shape).Idx → EReal
  y : (⟨2, ![32768, 512]⟩ : Shape).Idx → EReal
  gpre : (⟨2, ![1, 1024]⟩ : Shape).Idx → EReal
  win : (⟨2, ![1024, 4864]⟩ : Shape).Idx → EReal
  glu : (⟨2, ![512, 2048]⟩ : Shape).Idx → EReal
  wab : (⟨2, ![512, 1024]⟩ : Shape).Idx → EReal
  wmb : (⟨2, ![512, 1024]⟩ : Shape).Idx → EReal
  wo : (⟨2, ![1024, 1024]⟩ : Shape).Idx → EReal
  gpost : (⟨2, ![1, 1024]⟩ : Shape).Idx → EReal

namespace Args

/-- What the value claim supposes: the numbers both attentions' scores are made of are finite. -/
structure Finite (A : Args) : Prop where
  q : ∀ i, IsReal (A.q i)
  k : ∀ i, IsReal (A.k i)
  bias : ∀ i, IsReal (A.bias i)
  sink : ∀ i, IsReal (A.sink i)
  qm : ∀ i, IsReal (A.qm i)
  memK : ∀ i, IsReal (A.memK i)

/-- The merge weights: the gates' are the columns of the in-projection from 1792. -/
def weights (A : Args) : MixWeights where
  gpre := fun l => A.gpre (ix2 0 l)
  gate := fun i k l => A.win (ix2 k ⟨1792 + 1024 * i.val + l.val, by omega⟩)
  glu := fun i k l => A.glu (ix2 k ⟨1024 * i.val + l.val, by omega⟩)
  wab := fun k l => A.wab (ix2 k l)
  wmb := fun k l => A.wmb (ix2 k l)
  wo := fun k l => A.wo (ix2 k l)
  gpost := fun l => A.gpost (ix2 0 l)

/-- Where key `k` of chunk `c` stands, for a key that does not lie before the sequence. -/
def keyPos (c : Fin 256) (k : Fin 192) : Fin 16384 := ⟨64 * c.val + k.val - 128, by omega⟩

/-- The scores of row `a` of chunk `c`, for head `4 g + m`. -/
def score (A : Args) (b : Fin 2) (c : Fin 256) (a : Fin 64) (g : Fin 2) (m : Fin 4) (k : Fin 192) : EReal :=
  headScore (fun d => A.q (ix3 b ⟨64 * c.val + a.val, by omega⟩ ⟨256 * g.val + 64 * m.val + d.val, by omega⟩))
    (fun k d => A.k (ix3 b (keyPos c k) ⟨64 * g.val + d.val, by omega⟩))
    (fun k => A.bias (ix3 g ⟨64 * m.val + a.val, by omega⟩ k)) (fun k => 128 ≤ 64 * c.val + k.val) k

/-- The window attention: row `a` of chunk `c`, lane `d` of head `4 g + m`. -/
def attn (A : Args) (b : Fin 2) (c : Fin 256) (a : Fin 64) (g : Fin 2) (m : Fin 4) (d : Fin 64) : EReal :=
  sinkSum (A.score b c a g m) (A.sink (ix1 ⟨4 * g.val + m.val, by omega⟩))
    fun k => A.v (ix3 b (keyPos c k) ⟨64 * g.val + d.val, by omega⟩)

/-- The memory attention: position `n`, lane `d` of head `h`. -/
def mem (A : Args) (b : Fin 2) (n : Fin 16384) (h : Fin 4) (d : Fin 128) : EReal :=
  memSum (fun d => A.qm (ix3 b n ⟨128 * h.val + d.val, by omega⟩)) (fun m d => A.memK (ix3 b ⟨4 * m.val + h.val, by omega⟩ d))
    fun m => A.memV (ix3 b ⟨4 * m.val + h.val, by omega⟩ d)

/-- The mixer: row `a` of chunk `c`. -/
def mixed (A : Args) (b : Fin 2) (c : Fin 256) (a : Fin 64) (l : Fin 1024) : EReal :=
  mixRow A.weights (fun l => A.x1 (ix2 ⟨16384 * b.val + 64 * c.val + a.val, by omega⟩ l))
    (fun e => A.attn b c a ⟨e.val / 256, by omega⟩ ⟨e.val / 64 % 4, by omega⟩ ⟨e.val % 64, by omega⟩)
    (fun e => A.y (ix2 ⟨16384 * b.val + 64 * c.val + a.val, by omega⟩ e))
    (fun e => A.mem b ⟨64 * c.val + a.val, by omega⟩ ⟨e.val / 128, by omega⟩ ⟨e.val % 128, by omega⟩) l

/-- The whole result. -/
def result (A : Args) (i : (⟨2, ![32768, 1024]⟩ : Shape).Idx) : EReal :=
  A.mixed ⟨(i 0).val / 16384, by have := (i 0).isLt; simp at this; omega⟩ ⟨(i 0).val / 64 % 256, by omega⟩ ⟨(i 0).val % 64, by omega⟩ (i 1)

theorem Finite.score_ne_top {A : Args} (hA : A.Finite) (b : Fin 2) (c : Fin 256) (a : Fin 64) (g : Fin 2) (m : Fin 4) (k : Fin 192) :
    A.score b c a g m k ≠ ⊤ :=
  headScore_ne_top (fun _ => hA.q _) (fun _ _ _ => hA.k _) (fun _ => hA.bias _) k

end Args

end Cert.Mix

end
-- ==== Proof.BlockRead.lean ====
/-
  A half of the mixer's block, read at an index in extended reals: the window attention, the memory attention and the
  merge of each of its rows are the row functions of `Rows`, of what the half loads.
-/
module

public import proofs.«01_k».proof.Proof.Block
public import proofs.«01_k».proof.Proof.Rows
public import Idealize.ShloMosaic.Lib.Pointwise

@[expose] public section

noncomputable section

namespace Cert.Mix

open Cert.KernelIdeal Cert.KernelIdeal.Gen Idealize.ShloMosaic

/-! ## The constants -/

theorem ofBits_bot : Ideal.ofBits .f32 0xFF800000#32 = ⊥ := by simp [Ideal.ofBits, Ideal.ieee]

theorem ofBits_half : Ideal.ofBits .f32 0x3F000000#32 = half := by
  simp [Ideal.ofBits, Ideal.ieee, -EReal.coe_mul]; norm_num

theorem ofBits_eighth : Ideal.ofBits .f32 0x3E000000#32 = eighth := by
  simp [Ideal.ofBits, Ideal.ieee, -EReal.coe_mul]; norm_num

theorem mask_eq : Named.named (F := Ideal) (φ := .f32) κ "mask" 0xF149F2CA#32 = (⊥ : EReal) :=
  IdealRules.named_const.ideal_named_scalar _ _ _ _ rfl

theorem scale2_eq : Named.named (F := Ideal) (φ := .f32) κ "scale2" 0x3E0293EE#32
    = (((Real.sqrt 128)⁻¹ * (Real.log 2)⁻¹ : ℝ) : EReal) :=
  IdealRules.named_const.ideal_named_scalar _ _ _ _ rfl

namespace Block

/-! ## The window attention -/

/-- The test that picks the low lanes. -/
theorem low_word (d : Fin 128) :
    IntOp.cmpi .slt (BitVec.ofNat 32 d.val) 64#32 = if d.val < 64 then 1#1 else 0#1 := by
  revert d; decide

/-- Picking by a test. -/
theorem select_ite {α : Type} (p : Prop) [Decidable p] (x y : α) :
    Scalar.select (if p then 1#1 else 0#1) x y = if p then x else y := by
  by_cases h : p <;> simp [h, Scalar.select]

/-- Row `64 m + a` of the stacked queries is head `4 g + m`'s query of row `a`, in the half of the lanes that is the head's. -/
theorem queries_apply (q : FVec Ideal S64x512 .bf16) (g : Fin 2) (m : Fin 4) (a : Fin 64) (x : Fin 128) :
    queries q g (ix2 ⟨64 * m.val + a.val, by omega⟩ x)
      = if x.val / 64 = m.val % 2 then q (ix2 a ⟨256 * g.val + 128 * (m.val / 2) + x.val, by omega⟩) else 0 := by
  pointwise [queries, evenHead, oddHead, low, zeros]
  simp only [low_word, select_ite]
  have hx := x.isLt
  have ha := a.isLt
  match m with
  | 0 => simp [show x.val / 64 = 0 ↔ x.val < 64 by omega]
  | 1 =>
    by_cases h : x.val < 64
    · simp [h, show ¬ x.val / 64 = 1 by omega]
    · simp [h, show x.val / 64 = 1 by omega]
  | 2 => simp [show x.val / 64 = 0 ↔ x.val < 64 by omega, show ¬ 128 + a.val < 64 by omega, show 128 + a.val - 64 - 64 = a.val by omega,  show ¬ 128 + a.val - 64 < 64 by omega]
  | 3 =>
    by_cases h : x.val < 64
    · simp [h, show ¬ x.val / 64 = 1 by omega, show ¬ 192 + a.val < 64 by omega,  show ¬ 192 + a.val - 64 < 64 by omega,  show ¬ 192 + a.val - 64 - 64 < 64 by omega, show 192 + a.val - 64 - 64 - 64 = a.val by omega]
    · simp [h, show x.val / 64 = 1 by omega, show ¬ 192 + a.val < 64 by omega,  show ¬ 192 + a.val - 64 < 64 by omega,  show ¬ 192 + a.val - 64 - 64 < 64 by omega, show 192 + a.val - 64 - 64 - 64 = a.val by omega]

/-- So a query's product with a doubled key is the product of the head's 64 lanes. -/
theorem queries_dot (q : FVec Ideal S64x512 .bf16) (g : Fin 2) (m : Fin 4) (a : Fin 64) (K : Fin 128 → EReal) :
    ∑ x, queries q g (ix2 ⟨64 * m.val + a.val, by omega⟩ x) * K x
      = ∑ d : Fin 64, q (ix2 a ⟨256 * g.val + 64 * m.val + d.val, by omega⟩) * K ⟨64 * (m.val % 2) + d.val, by omega⟩ := by
  simp only [queries_apply]
  rw [Fin.sum_univ_add (a := 64) (b := 64)]
  have e : ∀ n n' : Fin 512, n.val = n'.val → q (ix2 a n) = q (ix2 a n') := fun n n' h => by rw [Fin.ext h]
  have f : ∀ n n' : Fin 128, n.val = n'.val → K n = K n' := fun n n' h => by rw [Fin.ext h]
  rcases Nat.mod_two_eq_zero_or_one m.val with h | h
  · rw [Finset.sum_eq_zero (f := fun i : Fin 64 => _ * K (Fin.natAdd 64 i)), add_zero]
    · refine Finset.sum_congr rfl fun d _ => ?_
      rw [if_pos (by simp only [Fin.val_castAdd]; omega)]
      exact congrArg₂ (· * ·) (e _ _ (by simp only [Fin.val_castAdd]; omega)) (f _ _ (by simp only [Fin.val_castAdd]; omega))
    · intro d _
      rw [if_neg (by simp only [Fin.val_natAdd]; omega), zero_mul]
  · rw [Finset.sum_eq_zero (f := fun i : Fin 64 => _ * K (Fin.castAdd 64 i)), zero_add]
    · refine Finset.sum_congr rfl fun d _ => ?_
      rw [if_pos (by simp only [Fin.val_natAdd]; omega)]
      exact congrArg₂ (· * ·) (e _ _ (by simp only [Fin.val_natAdd]; omega)) (f _ _ (by simp only [Fin.val_natAdd]; omega))
    · intro d _
      rw [if_neg (by simp only [Fin.val_castAdd]; omega), zero_mul]

/-- The weights are those of the softmax with a sink, where no score and no sink is infinite upwards. -/
theorem weights_apply (s : FVec Ideal S256x192 .f32) (t : FVec Ideal S256x1 .f32) (r : Fin 256) (k : Fin 192)
    (hs : ∀ k, s (ix2 r k) ≠ ⊤) (ht : IsReal (t (ix2 r 0))) :
    weights s t (ix2 r k) = sinkWeight (fun k => s (ix2 r k)) (t (ix2 r 0)) k := by
  pointwise [weights, rowExp, rowTop]
  obtain ⟨t', ht⟩ := ht
  rw [ofBits_bot, ht]
  exact sinkWeight_recip (fun k => s (ix2 r k)) t' hs k

theorem masked_apply (v : Option (IVec S1x192 1)) (s : FVec Ideal S256x192 .f32) (r : Fin 256) (k : Fin 192) :
    masked v s (ix2 r k) = if (∀ w, v = some w → w (ix2 0 k) = 1#1) then s (ix2 r k) else ⊥ := by
  cases v with
  | none => simp [masked]
  | some v =>
    pointwise [masked]
    rw [mask_eq]
    simp [Scalar.select]

/-- The lanes `64 h … 64 h + 63` of a chunk, for head `h = 4 g + m`, from the stacked outputs. -/
theorem chunkOut_lane (p : Fin 2) (L : Loads Ideal) (j : Fin 4) (a : Fin 64) (g : Fin 2) (m : Fin 4) (d : Fin 64) :
    chunkOut p L j (ix2 a ⟨256 * g.val + 64 * m.val + d.val, by omega⟩)
      = headsOut p L j g (ix2 ⟨64 * m.val + a.val, by omega⟩ ⟨64 * (m.val % 2) + d.val, by omega⟩) := by
  have ha := a.isLt
  have hd := d.isLt
  have hp : ∀ (o : FVec Ideal S256x128 .f32) (n : Nat) (h : n + 128 ≤ 256) (x : Fin 128),
      pair o n h (ix2 a x) = if x.val < 64 then o (ix2 ⟨n + a.val, by omega⟩ x) else o (ix2 ⟨n + 64 + a.val, by omega⟩ x) := by
    intro o n h x
    pointwise [pair, low]
    rw [low_word, select_ite]
  pointwise [chunkOut]
  simp only [hp]
  match g, m with
  | 0, 0 => simp [hd, show d.val < 128 by omega]
  | 0, 1 => simp [show 64 + d.val < 128 by omega]
  | 0, 2 => simp [hd, show ¬ 128 + d.val < 128 by omega, show d.val < 128 by omega]
  | 0, 3 => simp [show ¬ 192 + d.val < 128 by omega, show 192 + d.val - 128 = 64 + d.val by omega, show 64 + d.val < 128 by omega]
  | 1, 0 => simp [hd, show d.val < 128 by omega, show ¬ 256 + d.val < 128 by omega, show 256 + d.val - 128 = 128 + d.val by omega]
  | 1, 1 => simp [hd, show ¬ 256 + 64 + d.val < 128 by omega, show 256 + 64 + d.val - 128 = 128 + (64 + d.val) by omega, show 64 + d.val < 128 by omega]
  | 1, 2 => simp [hd, show ¬ 256 + 128 + d.val < 128 by omega, show 256 + 128 + d.val - 128 = 128 + (128 + d.val) by omega]
  | 1, 3 => simp [hd, show ¬ 256 + 192 + d.val < 128 by omega, show 256 + 192 + d.val - 128 = 128 + (128 + (64 + d.val)) by omega]

/-- A stacked output is the weighted sum of the band's values. -/
theorem headsOut_apply (p : Fin 2) (L : Loads Ideal) (j : Fin 4) (g : Fin 2) (r : Fin 256) (x : Fin 128) :
    headsOut p L j g (ix2 r x) = ∑ k : Fin 192,
      weights (scores p L j g) (shapeCast S256x1 (L.sink g) shapeCasts_S1x256x1_S256x1) (ix2 r k)
        * L.vals (ix2 ⟨256 * p.val + 64 * j.val + k.val, by omega⟩ ⟨128 * g.val + x.val, by omega⟩) := by
  pointwise [headsOut, band]

/-- Chunk `j`'s scores for head `4 g + m` of row `a`. -/
def score (p : Fin 2) (L : Loads Ideal) (j : Fin 4) (a : Fin 64) (g : Fin 2) (m : Fin 4) (k : Fin 192) : EReal :=
  if (∀ w, L.valid j = some w → w (ix2 0 k) = 1#1) then
    (∑ d : Fin 64, L.q j (ix3 0 a ⟨256 * g.val + 64 * m.val + d.val, by omega⟩)
        * L.keys (ix2 ⟨256 * p.val + 64 * j.val + k.val, by omega⟩ ⟨128 * g.val + (64 * (m.val % 2) + d.val), by omega⟩))
      + L.bias g (ix3 0 ⟨64 * m.val + a.val, by omega⟩ k)
  else ⊥

theorem scores_apply (p : Fin 2) (L : Loads Ideal) (j : Fin 4) (a : Fin 64) (g : Fin 2) (m : Fin 4) (k : Fin 192) :
    scores p L j g (ix2 ⟨64 * m.val + a.val, by omega⟩ k) = score p L j a g m k := by
  unfold scores score
  rw [masked_apply]
  refine if_congr Iff.rfl ?_ rfl
  pointwise [band]
  rw [queries_dot _ g m a fun x => L.keys (ix2 ⟨256 * p.val + 64 * j.val + k.val, by omega⟩ ⟨128 * g.val + x.val, by omega⟩)]
  pointwise

/-- The window attention of row `64 j + a`, lane `d` of head `4 g + m`. -/
theorem attn_value (p : Fin 2) (L : Loads Ideal) (j : Fin 4) (a : Fin 64) (g : Fin 2) (m : Fin 4) (d : Fin 64)
    (hs : ∀ k, score p L j a g m k ≠ ⊤) (ht : IsReal (L.sink g (ix3 0 ⟨64 * m.val + a.val, by omega⟩ 0))) :
    attn p L (ix2 ⟨64 * j.val + a.val, by omega⟩ ⟨256 * g.val + 64 * m.val + d.val, by omega⟩)
      = sinkSum (score p L j a g m) (L.sink g (ix3 0 ⟨64 * m.val + a.val, by omega⟩ 0)) fun k =>
          L.vals (ix2 ⟨256 * p.val + 64 * j.val + k.val, by omega⟩ ⟨128 * g.val + (64 * (m.val % 2) + d.val), by omega⟩) := by
  have hc : attn p L (ix2 ⟨64 * j.val + a.val, by omega⟩ ⟨256 * g.val + 64 * m.val + d.val, by omega⟩)
      = chunkOut p L j (ix2 a ⟨256 * g.val + 64 * m.val + d.val, by omega⟩) := by
    have ha := a.isLt
    pointwise [attn]
    match j with
    | 0 => simp
    | 1 => simp [show ¬ 64 + a.val < 64 by omega]
    | 2 => simp [show ¬ 128 + a.val < 64 by omega, show ¬ 128 + a.val - 64 < 64 by omega, show 128 + a.val - 64 - 64 = a.val by omega]
    | 3 => simp [show ¬ 192 + a.val < 64 by omega, show ¬ 192 + a.val - 64 < 64 by omega, show ¬ 192 + a.val - 64 - 64 < 64 by omega,
        show 192 + a.val - 64 - 64 - 64 = a.val by omega]
  rw [hc, chunkOut_lane, headsOut_apply]
  refine Finset.sum_congr rfl fun k _ => ?_
  have ht' : shapeCast S256x1 (L.sink g) shapeCasts_S1x256x1_S256x1 (ix2 ⟨64 * m.val + a.val, by omega⟩ 0)
      = L.sink g (ix3 0 ⟨64 * m.val + a.val, by omega⟩ 0) := by pointwise
  rw [weights_apply _ _ _ _ (fun k => by rw [scores_apply]; exact hs k) (by rw [ht']; exact ht), ht']
  simp only [scores_apply]

/-! ## The memory attention -/

/-- The memory attention of row `r`, lane `d` of head `h`. -/
theorem mem_value (L : Loads Ideal) (r : Fin 256) (h : Fin 4) (d : Fin 128)
    (hq : ∀ x : Fin 512, IsReal (L.qm (ix3 0 r x))) (hk : ∀ (m : Fin 256) (x : Fin 128), IsReal (L.memK h (ix3 0 m x))) :
    mem L (ix2 r ⟨128 * h.val + d.val, by omega⟩)
      = memSum (fun x => L.qm (ix3 0 r ⟨128 * h.val + x.val, by omega⟩)) (fun m x => L.memK h (ix3 0 m x))
          fun m => L.memV h (ix3 0 m d) := by
  have hc : mem L (ix2 r ⟨128 * h.val + d.val, by omega⟩) = memHead L h (ix2 r d) := by
    have hd := d.isLt
    pointwise [mem]
    match h with
    | 0 => simp
    | 1 => simp [show ¬ 128 + d.val < 128 by omega]
    | 2 => simp [show ¬ 256 + d.val < 128 by omega, show ¬ 256 + d.val - 128 < 128 by omega, show 256 + d.val - 128 - 128 = d.val by omega]
    | 3 => simp [show ¬ 384 + d.val < 128 by omega, show ¬ 384 + d.val - 128 < 128 by omega, show ¬ 384 + d.val - 128 - 128 < 128 by omega,
        show 384 + d.val - 128 - 128 - 128 = d.val by omega]
  rw [hc]
  pointwise [memHead, memWeights, memExp, memScores]
  refine Finset.sum_congr rfl fun m _ => ?_
  congr 1
  have hr : ∀ m : Fin 256, IsReal (∑ x : Fin 128, L.qm (ix3 0 r ⟨128 * h.val + x.val, by omega⟩) * L.memK h (ix3 0 m x)) :=
    fun m => IsReal.sum fun x => (hq _).mul (hk _ _)
  choose s hs using hr
  simp only [hs, ofBits_bot, scale2_eq]
  refine (softWeight_exp2 s (Real.sqrt 128)⁻¹ (by positivity) m).trans ?_
  unfold softWeight memScore
  simp only [hs]

/-! ## The merge -/

theorem rms_apply (x : FVec Ideal S256x1024 .f32) (g : FVec Ideal S1x1024 .f32) (r : Fin 256) (l : Fin 1024) :
    rms x g (ix2 r l) = rmsRow (fun l => x (ix2 r l)) (fun l => g (ix2 0 l)) l := by
  pointwise [rms]
  rfl

theorem sig_apply (x : FVec Ideal S256x1024 .f32) (r : Fin 256) (l : Fin 1024) :
    sig x (ix2 r l) = sigmoid (x (ix2 r l)) := by
  pointwise [sig]
  rw [ofBits_half]
  exact sigmoid_tanh _

theorem mm1024_apply (x : FVec Ideal S256x1024 .f32) (w : FVec Ideal S1024x1024 .bf16) (r : Fin 256) (l : Fin 1024) :
    mm1024 x w (ix2 r l) = rowMul (fun k => x (ix2 r k)) (fun k l => w (ix2 k l)) l := by
  pointwise [mm1024]
  rfl

theorem mm512_apply (x : FVec Ideal S256x512 .f32) (w : FVec Ideal S512x1024 .bf16) (r : Fin 256) (l : Fin 1024) :
    mm512 x w (ix2 r l) = rowMul (fun k => x (ix2 r k)) (fun k l => w (ix2 k l)) l := by
  pointwise [mm512]
  rfl

/-- The merge weights a half loads. -/
def weightsOf (L : Loads Ideal) : MixWeights where
  gpre := fun l => L.gpre (ix2 0 l)
  gate := fun i k l => L.gate i (ix2 k l)
  glu := fun i k l => L.glu i (ix2 k l)
  wab := fun k l => L.wab (ix2 k l)
  wmb := fun k l => L.wmb (ix2 k l)
  wo := fun k l => L.wo (ix2 k l)
  gpost := fun l => L.gpost (ix2 0 l)

theorem merged_apply (p : Fin 2) (L : Loads Ideal) (r : Fin 256) (l : Fin 1024) :
    merged p L (ix2 r l) = mergedRow (weightsOf L) (fun l => L.x1 (ix2 r l)) (fun e => attn p L (ix2 r e))
      (fun e => L.y (ix2 r e)) (fun e => mem L (ix2 r e)) l := by
  pointwise [merged]
  simp only [sig_apply, mm1024_apply, mm512_apply, rms_apply]
  rfl

/-- What a half stores at a row is the mixer's row. -/
theorem out_value (p : Fin 2) (L : Loads Ideal) (r : Fin 256) (l : Fin 1024) :
    out p L (ix2 r l) = mixRow (weightsOf L) (fun l => L.x1 (ix2 r l)) (fun e => attn p L (ix2 r e))
      (fun e => L.y (ix2 r e)) (fun e => mem L (ix2 r e)) l := by
  pointwise [out]
  simp only [rms_apply, mm1024_apply, merged_apply]
  rfl

end Block

end Cert.Mix

end
-- ==== Proof.Windows.lean ====
/-
  What each window of the kernel's one launch holds at a grid point, read at an index in extended reals: a part of an
  argument, the queries scaled by one eighth, and the keys and values with each head's lanes twice.
-/
module

public import proofs.«01_k».proof.Proof.Gen.KernelIdeal.Value
public import proofs.«01_k».proof.Proof.BlockRead
public import Idealize.ShloMosaic.Lib.Pipeline.ValueKit
public import Idealize.ShloMosaic.Lib.Pipeline.ValueKit.Point

@[expose] public section

set_option maxRecDepth 16384

noncomputable section

namespace Cert.Mix

open Cert.KernelIdeal Cert.KernelIdeal.Gen Idealize.ShloMosaic Idealize.ShloMosaic.TcCoe

/-- The blocks each window stages at grid point `(b, i)`. -/
theorem place (t : Fin cfg0.N) :
    win0_0.index t = ![(grid0.coords t 0).val, (grid0.coords t 1).val, 0]
    ∧ win0_1.index t = ![(grid0.coords t 0).val, (grid0.coords t 1).val, 0]
    ∧ win0_2.index t = ![(grid0.coords t 0).val, 4 * (grid0.coords t 1).val - 1, 0]
    ∧ win0_3.index t = ![(grid0.coords t 0).val, (grid0.coords t 1).val, 0]
    ∧ win0_4.index t = ![(grid0.coords t 0).val, 4 * (grid0.coords t 1).val - 1, 0]
    ∧ win0_5.index t = ![0, 0, 0] ∧ win0_6.index t = ![0, 0, 0]
    ∧ win0_7.index t = ![(grid0.coords t 0).val, (grid0.coords t 1).val, 0]
    ∧ win0_8.index t = ![(grid0.coords t 0).val, 0, 0] ∧ win0_9.index t = ![(grid0.coords t 0).val, 0, 0]
    ∧ win0_10.index t = ![32 * (grid0.coords t 0).val + (grid0.coords t 1).val, 0]
    ∧ win0_11.index t = ![32 * (grid0.coords t 0).val + (grid0.coords t 1).val, 0]
    ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0]
    ∧ win0_19.index t = ![32 * (grid0.coords t 0).val + (grid0.coords t 1).val, 0] :=
  (by decide +kernel : ∀ t : Fin grid0.N,
    win0_0.index t = ![(grid0.coords t 0).val, (grid0.coords t 1).val, 0]
    ∧ win0_1.index t = ![(grid0.coords t 0).val, (grid0.coords t 1).val, 0]
    ∧ win0_2.index t = ![(grid0.coords t 0).val, 4 * (grid0.coords t 1).val - 1, 0]
    ∧ win0_3.index t = ![(grid0.coords t 0).val, (grid0.coords t 1).val, 0]
    ∧ win0_4.index t = ![(grid0.coords t 0).val, 4 * (grid0.coords t 1).val - 1, 0]
    ∧ win0_5.index t = ![0, 0, 0] ∧ win0_6.index t = ![0, 0, 0]
    ∧ win0_7.index t = ![(grid0.coords t 0).val, (grid0.coords t 1).val, 0]
    ∧ win0_8.index t = ![(grid0.coords t 0).val, 0, 0] ∧ win0_9.index t = ![(grid0.coords t 0).val, 0, 0]
    ∧ win0_10.index t = ![32 * (grid0.coords t 0).val + (grid0.coords t 1).val, 0]
    ∧ win0_11.index t = ![32 * (grid0.coords t 0).val + (grid0.coords t 1).val, 0]
    ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0]
    ∧ win0_19.index t = ![32 * (grid0.coords t 0).val + (grid0.coords t 1).val, 0]) t

variable (m : (ℓ : Loc nD τ sig) → Buf (Elt Ideal) ℓ) (c : Dev nD) (t : Fin cfg0.N)

/-- The batch of a grid point, … -/
def bOf : Fin 2 := ⟨(grid0.coords t 0).val, (grid0.coords t 0).isLt⟩

/-- … and its tile of 512 positions. -/
def iOf : Fin 32 := ⟨(grid0.coords t 1).val, (grid0.coords t 1).isLt⟩

/-- The arguments a run starts with. -/
def argsOf : Args where
  q := m ((c : Thread nD τ).loc main_arg0)
  k := m ((c : Thread nD τ).loc main_arg1)
  v := m ((c : Thread nD τ).loc main_arg2)
  bias := m ((c : Thread nD τ).loc main_arg3)
  sink := m ((c : Thread nD τ).loc main_arg4)
  qm := m ((c : Thread nD τ).loc main_arg5)
  memK := m ((c : Thread nD τ).loc main_arg6)
  memV := m ((c : Thread nD τ).loc main_arg7)
  x1 := m ((c : Thread nD τ).loc main_arg8)
  y := m ((c : Thread nD τ).loc main_arg9)
  gpre := m ((c : Thread nD τ).loc main_arg10)
  win := m ((c : Thread nD τ).loc main_arg11)
  glu := m ((c : Thread nD τ).loc main_arg12)
  wab := m ((c : Thread nD τ).loc main_arg13)
  wmb := m ((c : Thread nD τ).loc main_arg14)
  wo := m ((c : Thread nD τ).loc main_arg15)
  gpost := m ((c : Thread nD τ).loc main_arg16)

/-! ## The operands made before the launch -/

/-- Keys or values with each head's 64 lanes twice. -/
def twice {F : FTy → Type} [FloatOps F] (x : FVec F S2x16384x128 .bf16) : FVec F S2x16384x256 .bf16 :=
  shapeCast S2x16384x256 (concatenate S2x16384x2x2x64 3
    [⟨S2x16384x2x1x64, shapeCast S2x16384x2x1x64 x shapeCasts_S2x16384x128_S2x16384x2x1x64⟩,
     ⟨S2x16384x2x1x64, shapeCast S2x16384x2x1x64 x shapeCasts_S2x16384x128_S2x16384x2x1x64⟩]
    concatenates_S2x16384x2x1x64_S2x16384x2x1x64_S2x16384x2x2x64_d3) shapeCasts_S2x16384x2x2x64_S2x16384x256

theorem twice_apply (x : FVec Ideal S2x16384x128 .bf16) (b : Fin 2) (n : Fin 16384) (l : Fin 256) :
    twice x (ix3 b n l) = x (ix3 b n ⟨64 * (l.val / 128) + l.val % 64, by omega⟩) := by
  pointwise [twice]
  split <;> congr 2 <;> exact Fin.ext (by simp only []; omega)

/-- The sinks, one to each row of the stacked queries. -/
def sinkRows {F : FTy → Type} [FloatOps F] (x : FVec F S8 .f32) : FVec F S2x256x1 .f32 :=
  broadcastInDim S2x256x1 ![0, 1] bcast_S2x256_S2x256x1_0_1 (shapeCast S2x256
    (broadcastInDim S2x4x64 ![0, 1] bcast_S2x4_S2x4x64_0_1 (shapeCast S2x4 x shapeCasts_S8_S2x4)) shapeCasts_S2x4x64_S2x256)

theorem sinkRows_apply (x : FVec Ideal S8 .f32) (g : Fin 2) (r : Fin 256) :
    sinkRows x (ix3 g r 0) = x (ix1 ⟨4 * g.val + r.val / 64, by omega⟩) := by
  pointwise [sinkRows]
  congr 2
  exact Fin.ext (by simp only []; omega)

/-- The queries, scaled. -/
def scaled {F : FTy → Type} [FloatOps F] (x : FVec F S2x16384x512 .f32) : FVec F S2x16384x512 .bf16 :=
  truncf .bf16 (mulf x (broadcastInDim S2x16384x512 ![] bcast_S_S2x16384x512 (constant S_ .f32 0x3E000000#32))) bitsLt_bf16_f32

theorem scaled_apply (x : FVec Ideal S2x16384x512 .f32) (j : S2x16384x512.Idx) : scaled x j = x j * eighth := by
  pointwise [scaled]
  rw [ofBits_eighth]

theorem V_q : V m c main_v2 = scaled (F := Ideal) (m ((c : Thread nD τ).loc main_arg0)) := by
  entry_read
  rfl

theorem V_k : V m c main_v6 = twice (F := Ideal) (m ((c : Thread nD τ).loc main_arg1)) := by
  entry_read
  rfl

theorem V_v : V m c main_v10 = twice (F := Ideal) (m ((c : Thread nD τ).loc main_arg2)) := by
  entry_read
  rfl

theorem V_sink : V m c main_v14 = sinkRows (F := Ideal) (m ((c : Thread nD τ).loc main_arg4)) := by
  entry_read
  rfl

theorem V_qm : V m c main_v15 = m ((c : Thread nD τ).loc main_arg5) := by
  entry_read
  rfl

/-! ## The windows -/

theorem win_q (r : Fin 512) (l : Fin 512) : iblk m c 0 t (ix3 0 r l)
    = (argsOf m c).q (ix3 (bOf t) ⟨512 * (iOf t).val + r.val, by omega⟩ l) * eighth := by
  have h : ∀ X : Buf (Elt Ideal) ((c : Thread nD τ).loc main_v2), ((cfg0.win 0).blk t).view.read (Elt Ideal) X (ix3 0 r l)
      = X (ix3 (bOf t) ⟨512 * (iOf t).val + r.val, by omega⟩ l) := fun X => by blk_ext [place t, bOf, iOf]
  exact (h (V m c main_v2)).trans ((congrFun (V_q m c) _).trans (scaled_apply _ _))

theorem win_k (r : Fin 512) (l : Fin 256) : iblk m c 1 t (ix3 0 r l)
    = (argsOf m c).k (ix3 (bOf t) ⟨512 * (iOf t).val + r.val, by omega⟩ ⟨64 * (l.val / 128) + l.val % 64, by omega⟩) := by
  have h : ∀ X : Buf (Elt Ideal) ((c : Thread nD τ).loc main_v6), ((cfg0.win 1).blk t).view.read (Elt Ideal) X (ix3 0 r l)
      = X (ix3 (bOf t) ⟨512 * (iOf t).val + r.val, by omega⟩ l) := fun X => by blk_ext [place t, bOf, iOf]
  exact (h (V m c main_v6)).trans ((congrFun (V_k m c) _).trans (twice_apply _ _ _ _))

theorem win_kHalo (r : Fin 128) (l : Fin 256) : iblk m c 2 t (ix3 0 r l)
    = (argsOf m c).k (ix3 (bOf t) ⟨128 * (4 * (iOf t).val - 1) + r.val, by omega⟩ ⟨64 * (l.val / 128) + l.val % 64, by omega⟩) := by
  have h : ∀ X : Buf (Elt Ideal) ((c : Thread nD τ).loc main_v6), ((cfg0.win 2).blk t).view.read (Elt Ideal) X (ix3 0 r l)
      = X (ix3 (bOf t) ⟨128 * (4 * (iOf t).val - 1) + r.val, by omega⟩ l) := fun X => by blk_ext [place t, bOf, iOf]
  exact (h (V m c main_v6)).trans ((congrFun (V_k m c) _).trans (twice_apply _ _ _ _))

theorem win_v (r : Fin 512) (l : Fin 256) : iblk m c 3 t (ix3 0 r l)
    = (argsOf m c).v (ix3 (bOf t) ⟨512 * (iOf t).val + r.val, by omega⟩ ⟨64 * (l.val / 128) + l.val % 64, by omega⟩) := by
  have h : ∀ X : Buf (Elt Ideal) ((c : Thread nD τ).loc main_v10), ((cfg0.win 3).blk t).view.read (Elt Ideal) X (ix3 0 r l)
      = X (ix3 (bOf t) ⟨512 * (iOf t).val + r.val, by omega⟩ l) := fun X => by blk_ext [place t, bOf, iOf]
  exact (h (V m c main_v10)).trans ((congrFun (V_v m c) _).trans (twice_apply _ _ _ _))

theorem win_vHalo (r : Fin 128) (l : Fin 256) : iblk m c 4 t (ix3 0 r l)
    = (argsOf m c).v (ix3 (bOf t) ⟨128 * (4 * (iOf t).val - 1) + r.val, by omega⟩ ⟨64 * (l.val / 128) + l.val % 64, by omega⟩) := by
  have h : ∀ X : Buf (Elt Ideal) ((c : Thread nD τ).loc main_v10), ((cfg0.win 4).blk t).view.read (Elt Ideal) X (ix3 0 r l)
      = X (ix3 (bOf t) ⟨128 * (4 * (iOf t).val - 1) + r.val, by omega⟩ l) := fun X => by blk_ext [place t, bOf, iOf]
  exact (h (V m c main_v10)).trans ((congrFun (V_v m c) _).trans (twice_apply _ _ _ _))

theorem win_bias (g : Fin 2) (r : Fin 256) (l : Fin 192) : iblk m c 5 t (ix3 g r l)
    = (argsOf m c).bias (ix3 g r l) := by
  have h : ∀ X : Buf (Elt Ideal) ((c : Thread nD τ).loc main_arg3), ((cfg0.win 5).blk t).view.read (Elt Ideal) X (ix3 g r l)
      = X (ix3 g r l) := fun X => by blk_ext [place t, bOf, iOf]
  exact (h (V m c main_arg3)).trans (congrFun (V_main_arg3 m c) _)

theorem win_sink (g : Fin 2) (r : Fin 256) : iblk m c 6 t (ix3 g r 0)
    = (argsOf m c).sink (ix1 ⟨4 * g.val + r.val / 64, by omega⟩) := by
  have h : ∀ X : Buf (Elt Ideal) ((c : Thread nD τ).loc main_v14), ((cfg0.win 6).blk t).view.read (Elt Ideal) X (ix3 g r 0)
      = X (ix3 g r 0) := fun X => by blk_ext [place t, bOf, iOf]
  exact (h (V m c main_v14)).trans ((congrFun (V_sink m c) _).trans (sinkRows_apply _ _ _))

theorem win_qm (r : Fin 512) (l : Fin 512) : iblk m c 7 t (ix3 0 r l)
    = (argsOf m c).qm (ix3 (bOf t) ⟨512 * (iOf t).val + r.val, by omega⟩ l) := by
  have h : ∀ X : Buf (Elt Ideal) ((c : Thread nD τ).loc main_v15), ((cfg0.win 7).blk t).view.read (Elt Ideal) X (ix3 0 r l)
      = X (ix3 (bOf t) ⟨512 * (iOf t).val + r.val, by omega⟩ l) := fun X => by blk_ext [place t, bOf, iOf]
  exact (h (V m c main_v15)).trans (congrFun (V_qm m c) _)

theorem win_memK (r : Fin 1024) (l : Fin 128) : iblk m c 8 t (ix3 0 r l)
    = (argsOf m c).memK (ix3 (bOf t) r l) := by
  have h : ∀ X : Buf (Elt Ideal) ((c : Thread nD τ).loc main_arg6), ((cfg0.win 8).blk t).view.read (Elt Ideal) X (ix3 0 r l)
      = X (ix3 (bOf t) r l) := fun X => by blk_ext [place t, bOf, iOf]
  exact (h (V m c main_arg6)).trans (congrFun (V_main_arg6 m c) _)

theorem win_memV (r : Fin 1024) (l : Fin 128) : iblk m c 9 t (ix3 0 r l)
    = (argsOf m c).memV (ix3 (bOf t) r l) := by
  have h : ∀ X : Buf (Elt Ideal) ((c : Thread nD τ).loc main_arg7), ((cfg0.win 9).blk t).view.read (Elt Ideal) X (ix3 0 r l)
      = X (ix3 (bOf t) r l) := fun X => by blk_ext [place t, bOf, iOf]
  exact (h (V m c main_arg7)).trans (congrFun (V_main_arg7 m c) _)

theorem win_x1 (r : Fin 512) (l : Fin 1024) : iblk m c 10 t (ix2 r l)
    = (argsOf m c).x1 (ix2 ⟨16384 * (bOf t).val + 512 * (iOf t).val + r.val, by omega⟩ l) := by
  have h : ∀ X : Buf (Elt Ideal) ((c : Thread nD τ).loc main_arg8), ((cfg0.win 10).blk t).view.read (Elt Ideal) X (ix2 r l)
      = X (ix2 ⟨16384 * (bOf t).val + 512 * (iOf t).val + r.val, by omega⟩ l) := fun X => by blk_ext [place t, bOf, iOf]
  exact (h (V m c main_arg8)).trans (congrFun (V_main_arg8 m c) _)

theorem win_y (r : Fin 512) (l : Fin 512) : iblk m c 11 t (ix2 r l)
    = (argsOf m c).y (ix2 ⟨16384 * (bOf t).val + 512 * (iOf t).val + r.val, by omega⟩ l) := by
  have h : ∀ X : Buf (Elt Ideal) ((c : Thread nD τ).loc main_arg9), ((cfg0.win 11).blk t).view.read (Elt Ideal) X (ix2 r l)
      = X (ix2 ⟨16384 * (bOf t).val + 512 * (iOf t).val + r.val, by omega⟩ l) := fun X => by blk_ext [place t, bOf, iOf]
  exact (h (V m c main_arg9)).trans (congrFun (V_main_arg9 m c) _)

theorem win_gpre (r : Fin 1) (l : Fin 1024) : iblk m c 12 t (ix2 r l)
    = (argsOf m c).gpre (ix2 r l) := by
  have h : ∀ X : Buf (Elt Ideal) ((c : Thread nD τ).loc main_arg10), ((cfg0.win 12).blk t).view.read (Elt Ideal) X (ix2 r l)
      = X (ix2 r l) := fun X => by blk_ext [place t, bOf, iOf]
  exact (h (V m c main_arg10)).trans (congrFun (V_main_arg10 m c) _)

theorem win_win (r : Fin 1024) (l : Fin 4864) : iblk m c 13 t (ix2 r l)
    = (argsOf m c).win (ix2 r l) := by
  have h : ∀ X : Buf (Elt Ideal) ((c : Thread nD τ).loc main_arg11), ((cfg0.win 13).blk t).view.read (Elt Ideal) X (ix2 r l)
      = X (ix2 r l) := fun X => by blk_ext [place t, bOf, iOf]
  exact (h (V m c main_arg11)).trans (congrFun (V_main_arg11 m c) _)

theorem win_glu (r : Fin 512) (l : Fin 2048) : iblk m c 14 t (ix2 r l)
    = (argsOf m c).glu (ix2 r l) := by
  have h : ∀ X : Buf (Elt Ideal) ((c : Thread nD τ).loc main_arg12), ((cfg0.win 14).blk t).view.read (Elt Ideal) X (ix2 r l)
      = X (ix2 r l) := fun X => by blk_ext [place t, bOf, iOf]
  exact (h (V m c main_arg12)).trans (congrFun (V_main_arg12 m c) _)

theorem win_wab (r : Fin 512) (l : Fin 1024) : iblk m c 15 t (ix2 r l)
    = (argsOf m c).wab (ix2 r l) := by
  have h : ∀ X : Buf (Elt Ideal) ((c : Thread nD τ).loc main_arg13), ((cfg0.win 15).blk t).view.read (Elt Ideal) X (ix2 r l)
      = X (ix2 r l) := fun X => by blk_ext [place t, bOf, iOf]
  exact (h (V m c main_arg13)).trans (congrFun (V_main_arg13 m c) _)

theorem win_wmb (r : Fin 512) (l : Fin 1024) : iblk m c 16 t (ix2 r l)
    = (argsOf m c).wmb (ix2 r l) := by
  have h : ∀ X : Buf (Elt Ideal) ((c : Thread nD τ).loc main_arg14), ((cfg0.win 16).blk t).view.read (Elt Ideal) X (ix2 r l)
      = X (ix2 r l) := fun X => by blk_ext [place t, bOf, iOf]
  exact (h (V m c main_arg14)).trans (congrFun (V_main_arg14 m c) _)

theorem win_wo (r : Fin 1024) (l : Fin 1024) : iblk m c 17 t (ix2 r l)
    = (argsOf m c).wo (ix2 r l) := by
  have h : ∀ X : Buf (Elt Ideal) ((c : Thread nD τ).loc main_arg15), ((cfg0.win 17).blk t).view.read (Elt Ideal) X (ix2 r l)
      = X (ix2 r l) := fun X => by blk_ext [place t, bOf, iOf]
  exact (h (V m c main_arg15)).trans (congrFun (V_main_arg15 m c) _)

theorem win_gpost (r : Fin 1) (l : Fin 1024) : iblk m c 18 t (ix2 r l)
    = (argsOf m c).gpost (ix2 r l) := by
  have h : ∀ X : Buf (Elt Ideal) ((c : Thread nD τ).loc main_arg16), ((cfg0.win 18).blk t).view.read (Elt Ideal) X (ix2 r l)
      = X (ix2 r l) := fun X => by blk_ext [place t, bOf, iOf]
  exact (h (V m c main_arg16)).trans (congrFun (V_main_arg16 m c) _)

end Cert.Mix

end
-- ==== Proof.KernelValue.lean ====
/-
  The kernel's result array is the mixer of its arguments: each half of each grid point's block is read at an index, its
  loads are the arguments at the rows the point stages, and the blocks cover the array.
-/
module

public import proofs.«01_k».proof.Proof.LoadsRead
public import proofs.«01_k».proof.Proof.Windows

@[expose] public section

set_option maxRecDepth 16384

noncomputable section

namespace Cert.Mix

open Cert.KernelIdeal Cert.KernelIdeal.Gen Idealize.ShloMosaic Idealize.ShloMosaic.TcCoe

variable (m : (ℓ : Loc nD τ sig) → Buf (Elt Ideal) ℓ) (c : Dev nD) (t : Fin cfg0.N)

/-- What half `p` of the block loads at grid point `t`. -/
abbrev loadsAt (p : Fin 2) : Loads Ideal :=
  loads p (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (iblk m c 15 t) (iblk m c 16 t) (iblk m c 17 t) (iblk m c 18 t)

/-- The chunk of 64 positions that a half's chunk `j` is. -/
def chunkOf (p : Fin 2) (j : Fin 4) : Fin 256 := ⟨8 * (iOf t).val + 4 * p.val + j.val, by omega⟩

theorem keys_at (p : Fin 2) (j : Fin 4) (k : Fin 192) (g : Fin 2) (h : Nat) (hh : h < 2) (d : Fin 64)
    (hk : 128 ≤ 64 * (chunkOf t p j).val + k.val) :
    (loadsAt m c t p).keys (ix2 ⟨256 * p.val + 64 * j.val + k.val, by omega⟩ ⟨128 * g.val + (64 * h + d.val), by omega⟩)
      = (argsOf m c).k (ix3 (bOf t) (Args.keyPos (chunkOf t p j) k) ⟨64 * g.val + d.val, by omega⟩) := by
  simp only [chunkOf] at hk
  rw [loads_keys]
  split
  · rename_i hr
    simp only at hr
    rw [win_kHalo]
    exact congrArg₂ (fun n l => (argsOf m c).k (ix3 (bOf t) n l))
      (Fin.ext (by simp only [Args.keyPos, chunkOf]; omega)) (Fin.ext (by simp only []; omega))
  · rename_i hr
    simp only at hr
    rw [win_k]
    exact congrArg₂ (fun n l => (argsOf m c).k (ix3 (bOf t) n l))
      (Fin.ext (by simp only [Args.keyPos, chunkOf]; omega)) (Fin.ext (by simp only []; omega))

theorem vals_at (p : Fin 2) (j : Fin 4) (k : Fin 192) (g : Fin 2) (h : Nat) (hh : h < 2) (d : Fin 64)
    (hk : 128 ≤ 64 * (chunkOf t p j).val + k.val) :
    (loadsAt m c t p).vals (ix2 ⟨256 * p.val + 64 * j.val + k.val, by omega⟩ ⟨128 * g.val + (64 * h + d.val), by omega⟩)
      = (argsOf m c).v (ix3 (bOf t) (Args.keyPos (chunkOf t p j) k) ⟨64 * g.val + d.val, by omega⟩) := by
  simp only [chunkOf] at hk
  rw [loads_vals]
  split
  · rename_i hr
    simp only at hr
    rw [win_vHalo]
    exact congrArg₂ (fun n l => (argsOf m c).v (ix3 (bOf t) n l))
      (Fin.ext (by simp only [Args.keyPos, chunkOf]; omega)) (Fin.ext (by simp only []; omega))
  · rename_i hr
    simp only at hr
    rw [win_v]
    exact congrArg₂ (fun n l => (argsOf m c).v (ix3 (bOf t) n l))
      (Fin.ext (by simp only [Args.keyPos, chunkOf]; omega)) (Fin.ext (by simp only []; omega))

theorem score_at (p : Fin 2) (j : Fin 4) (a : Fin 64) (g : Fin 2) (n : Fin 4) (k : Fin 192) :
    Block.score p (loadsAt m c t p) j a g n k = (argsOf m c).score (bOf t) (chunkOf t p j) a g n k := by
  unfold Block.score Args.score headScore
  refine ite_congr (propext (loads_valid ..)) (fun hk => ?_) fun _ => rfl
  rw [loads_bias, win_bias, ← sum_mul_factor _ _ _ (by norm_num)]
  congr 1
  refine Finset.sum_congr rfl fun d _ => ?_
  rw [keys_at m c t p j k g (n.val % 2) (by omega) d hk, loads_q, win_q]
  refine congrArg₂ (· * ·) (congrArg (· * eighth) ?_) rfl
  exact congrArg (fun n => (argsOf m c).q (ix3 (bOf t) n _)) (Fin.ext (by simp only [chunkOf]; omega))

theorem sink_at (p : Fin 2) (a : Fin 64) (g : Fin 2) (n : Fin 4) :
    (loadsAt m c t p).sink g (ix3 0 ⟨64 * n.val + a.val, by omega⟩ 0) = (argsOf m c).sink (ix1 ⟨4 * g.val + n.val, by omega⟩) := by
  rw [loads_sink, win_sink]
  exact congrArg (fun n => (argsOf m c).sink (ix1 n)) (Fin.ext (by simp only []; omega))

variable (hA : (argsOf m c).Finite)
include hA

theorem attn_at (p : Fin 2) (j : Fin 4) (a : Fin 64) (g : Fin 2) (n : Fin 4) (d : Fin 64) :
    Block.attn p (loadsAt m c t p) (ix2 ⟨64 * j.val + a.val, by omega⟩ ⟨256 * g.val + 64 * n.val + d.val, by omega⟩)
      = (argsOf m c).attn (bOf t) (chunkOf t p j) a g n d := by
  have hs := hA.score_ne_top (bOf t) (chunkOf t p j) a g n
  obtain ⟨s, hsink⟩ := hA.sink (ix1 ⟨4 * g.val + n.val, by omega⟩)
  rw [Block.attn_value p _ j a g n d (fun k => by rw [score_at]; exact hs k) (by rw [sink_at]; exact hA.sink _), sink_at,
    show Block.score p (loadsAt m c t p) j a g n = (argsOf m c).score (bOf t) (chunkOf t p j) a g n from
      funext fun k => score_at m c t p j a g n k]
  unfold Args.attn
  rw [hsink]
  refine sinkSum_congr _ s hs _ _ fun k hk => vals_at m c t p j k g (n.val % 2) (by omega) d ?_
  by_contra hv
  exact hk (if_neg hv)

theorem mem_at (p : Fin 2) (j : Fin 4) (a : Fin 64) (h : Fin 4) (d : Fin 128) :
    Block.mem (loadsAt m c t p) (ix2 ⟨64 * j.val + a.val, by omega⟩ ⟨128 * h.val + d.val, by omega⟩)
      = (argsOf m c).mem (bOf t) ⟨64 * (chunkOf t p j).val + a.val, by omega⟩ h d := by
  have hq : ∀ l : Fin 512, (loadsAt m c t p).qm (ix3 0 ⟨64 * j.val + a.val, by omega⟩ l)
      = (argsOf m c).qm (ix3 (bOf t) ⟨64 * (chunkOf t p j).val + a.val, by omega⟩ l) := fun l => by
    rw [loads_qm, win_qm]
    exact congrArg (fun n => (argsOf m c).qm (ix3 (bOf t) n _)) (Fin.ext (by simp only [chunkOf]; omega))
  have hk : ∀ (n : Fin 256) (d : Fin 128), (loadsAt m c t p).memK h (ix3 0 n d)
      = (argsOf m c).memK (ix3 (bOf t) ⟨4 * n.val + h.val, by omega⟩ d) := fun n d => by
    rw [loads_memK, win_memK]
  have hv : ∀ (n : Fin 256) (d : Fin 128), (loadsAt m c t p).memV h (ix3 0 n d)
      = (argsOf m c).memV (ix3 (bOf t) ⟨4 * n.val + h.val, by omega⟩ d) := fun n d => by
    rw [loads_memV, win_memV]
  rw [Block.mem_value _ _ h d (fun l => by rw [hq]; exact hA.qm _) (fun n d => by rw [hk]; exact hA.memK _)]
  unfold Args.mem
  simp only [hq, hk, hv]

omit hA in
theorem weights_at (p : Fin 2) : Block.weightsOf (loadsAt m c t p) = (argsOf m c).weights := by
  unfold Block.weightsOf Args.weights
  simp only [loads_gpre, loads_gate, loads_glu, loads_wab, loads_wmb, loads_wo, loads_gpost,
    win_gpre, win_win, win_glu, win_wab, win_wmb, win_wo, win_gpost]

/-- Each row a half stores is the mixer's. -/
theorem half_value (p : Fin 2) (j : Fin 4) (a : Fin 64) (l : Fin 1024) :
    Block.out p (loadsAt m c t p) (ix2 ⟨64 * j.val + a.val, by omega⟩ l) = (argsOf m c).mixed (bOf t) (chunkOf t p j) a l := by
  have hx : ∀ l : Fin 1024, (loadsAt m c t p).x1 (ix2 ⟨64 * j.val + a.val, by omega⟩ l)
      = (argsOf m c).x1 (ix2 ⟨16384 * (bOf t).val + 64 * (chunkOf t p j).val + a.val, by omega⟩ l) := fun l => by
    rw [loads_x1, win_x1]
    exact congrArg (fun n => (argsOf m c).x1 (ix2 n _)) (Fin.ext (by simp only [chunkOf]; omega))
  have hy : ∀ l : Fin 512, (loadsAt m c t p).y (ix2 ⟨64 * j.val + a.val, by omega⟩ l)
      = (argsOf m c).y (ix2 ⟨16384 * (bOf t).val + 64 * (chunkOf t p j).val + a.val, by omega⟩ l) := fun l => by
    rw [loads_y, win_y]
    exact congrArg (fun n => (argsOf m c).y (ix2 n _)) (Fin.ext (by simp only [chunkOf]; omega))
  have ha : ∀ e : Fin 512, Block.attn p (loadsAt m c t p) (ix2 ⟨64 * j.val + a.val, by omega⟩ e)
      = (argsOf m c).attn (bOf t) (chunkOf t p j) a ⟨e.val / 256, by omega⟩ ⟨e.val / 64 % 4, by omega⟩ ⟨e.val % 64, by omega⟩ := fun e => by
    rw [← attn_at m c t hA]
    exact congrArg (fun n => Block.attn p (loadsAt m c t p) (ix2 _ n)) (Fin.ext (by simp only []; omega))
  have hm : ∀ e : Fin 512, Block.mem (loadsAt m c t p) (ix2 ⟨64 * j.val + a.val, by omega⟩ e)
      = (argsOf m c).mem (bOf t) ⟨64 * (chunkOf t p j).val + a.val, by omega⟩ ⟨e.val / 128, by omega⟩ ⟨e.val % 128, by omega⟩ := fun e => by
    rw [← mem_at m c t hA]
    exact congrArg (fun n => Block.mem (loadsAt m c t p) (ix2 _ n)) (Fin.ext (by simp only []; omega))
  rw [Block.out_value]
  unfold Args.mixed
  simp only [hx, hy, ha, hm, weights_at]

/-- The result array. -/
theorem kernel_value : (dats m 0 c).arrAt 19 cfg0.N = (argsOf m c).result := by
  refine (dats m 0 c).arrAt_eq_of_covers 19 _ (by decide +kernel) fun t hf y => ?_
  blk_simp
  rw [after0_19]
  obtain ⟨r, l, rfl⟩ : ∃ (r : Fin 512) (l : Fin 1024), y = ix2 r l := ⟨y 0, y 1, by
    funext a
    match a with
    | 0 => rfl
    | 1 => rfl⟩
  have he : (win0_19.blk t).view.emb (ix2 r l) = ix2 ⟨16384 * (bOf t).val + 512 * (iOf t).val + r.val, by omega⟩ l := by
    blk_ext [place t, bOf, iOf]
  refine Eq.trans ?_ (congrArg (argsOf m c).result he).symm
  have hp : r.val / 256 < 2 := by omega
  have hr : r = ⟨256 * (⟨r.val / 256, hp⟩ : Fin 2).val + (64 * (⟨r.val / 64 % 4, by omega⟩ : Fin 4).val + (⟨r.val % 64, by omega⟩ : Fin 64).val),
      by simp only []; omega⟩ := Fin.ext (by simp only []; omega)
  unfold outsAt0
  conv_lhs => rw [hr]
  refine (out_at c _ _ _ _ _ _ _ _ _ _ _ _ _ _ _ _ _ _ _ _ _ _ _ _ _ _ _ _ _ _ _ _ _ _ _ _ _ _ _ _ _ _ _ _ _ _ _ _ _ _ _ _ _ _ _ _ _ _ _ _
    ⟨r.val / 256, hp⟩ ⟨64 * (⟨r.val / 64 % 4, by omega⟩ : Fin 4).val + (⟨r.val % 64, by omega⟩ : Fin 64).val, by simp only []; omega⟩ l).trans ?_
  refine (half_value m c t hA ⟨r.val / 256, hp⟩ ⟨r.val / 64 % 4, by omega⟩ ⟨r.val % 64, by omega⟩ l).trans ?_
  unfold Args.result
  have hb := (bOf t).isLt
  have hi := (iOf t).isLt
  have h0 : (⟨(16384 * (bOf t).val + 512 * (iOf t).val + r.val) / 16384, by omega⟩ : Fin 2) = bOf t := Fin.ext (by simp only []; omega)
  have h1 : (⟨(16384 * (bOf t).val + 512 * (iOf t).val + r.val) / 64 % 256, by omega⟩ : Fin 256)
      = chunkOf t ⟨r.val / 256, hp⟩ ⟨r.val / 64 % 4, by omega⟩ := Fin.ext (by simp only [chunkOf]; omega)
  have h2 : (⟨(16384 * (bOf t).val + 512 * (iOf t).val + r.val) % 64, by omega⟩ : Fin 64) = ⟨r.val % 64, by omega⟩ :=
    Fin.ext (by simp only []; omega)
  show _ = (argsOf m c).mixed ⟨(16384 * (bOf t).val + 512 * (iOf t).val + r.val) / 16384, _⟩
    ⟨(16384 * (bOf t).val + 512 * (iOf t).val + r.val) / 64 % 256, _⟩ ⟨(16384 * (bOf t).val + 512 * (iOf t).val + r.val) % 64, _⟩ l
  rw [h0, h1, h2]

end Cert.Mix

end
-- ==== Proof.RefWindow.lean ====
/-
  The reference's window attention, read at an index in extended reals: it is `Args.attn`.
-/
module

public import proofs.«01_k».proof.Proof.BlockRead
public import proofs.«01_k».proof.Proof.Gen.ReferenceIdeal.Read

@[expose] public section

noncomputable section

namespace Cert.Mix

/-- An array of rank three at two indices of the same coordinates. -/
theorem at3 {α : Type} {n0 n1 n2 : ℕ} (X : (⟨3, ![n0, n1, n2]⟩ : Idealize.ShloMosaic.Shape).Idx → α) {a a' : Fin n0} {b b' : Fin n1}
    {c c' : Fin n2} (ha : a.val = a'.val) (hb : b.val = b'.val) (hc : c.val = c'.val) :
    X (Idealize.ShloMosaic.ix3 a b c) = X (Idealize.ShloMosaic.ix3 a' b' c') := by
  rw [Fin.ext ha, Fin.ext hb, Fin.ext hc]

/-- An array of rank two at two indices of the same coordinates. -/
theorem at2 {α : Type} {n0 n1 : ℕ} (X : (⟨2, ![n0, n1]⟩ : Idealize.ShloMosaic.Shape).Idx → α) {a a' : Fin n0} {b b' : Fin n1}
    (ha : a.val = a'.val) (hb : b.val = b'.val) :
    X (Idealize.ShloMosaic.ix2 a b) = X (Idealize.ShloMosaic.ix2 a' b') := by
  rw [Fin.ext ha, Fin.ext hb]

/-- The greater of two arrays, at an index. -/
theorem maximumf_at {s : Idealize.ShloMosaic.Shape} (x y : Idealize.ShloMosaic.FVec Idealize.ShloMosaic.Ideal s .f32) (i : s.Idx) :
    Idealize.ShloMosaic.maximumf x y i = max (x i : EReal) (y i) := rfl

namespace Ref

open Cert.ReferenceIdeal Cert.ReferenceIdeal.Gen Cert.ReferenceIdeal.Read Idealize.ShloMosaic

/-! ## The scores -/

theorem query_apply (q : FVec Ideal S2x16384x512 .f32) (b : Fin 2) (c : Fin 256) (a : Fin 64) (g : Fin 2) (m : Fin 4) (d : Fin 64) :
    val_main_v3 (F := Ideal) q (ix6 b c a g m d)
      = q (ix3 b ⟨64 * c.val + a.val, by omega⟩ ⟨256 * g.val + 64 * m.val + d.val, by omega⟩) := by
  pointwise [val_main_v3, val_main_v0]
  exact at3 q rfl (by dsimp; omega) (by dsimp; omega)

/-- The keys of a chunk's window, those before the sequence being padding. -/
theorem key_apply (x : FVec Ideal S2x16384x128 .f32) (b : Fin 2) (c : Fin 256) (k : Fin 192) (g : Fin 2) (d : Fin 64)
    (h : 128 ≤ 64 * c.val + k.val) :
    val_main_v11 (F := Ideal) x (ix5 b c k g d) = x (ix3 b (Args.keyPos c k) ⟨64 * g.val + d.val, by omega⟩) := by
  pointwise [val_main_v11, val_main_v10, val_main_v9, val_main_v8, val_main_v5, val_main_v4, val_main_v1]
  split_ifs
  all_goals first
    | exact at3 x rfl (by dsimp [Args.keyPos]; omega) (by dsimp; omega)
    | (exfalso; omega)

theorem val_apply (x : FVec Ideal S2x16384x128 .f32) (b : Fin 2) (c : Fin 256) (k : Fin 192) (g : Fin 2) (d : Fin 64)
    (h : 128 ≤ 64 * c.val + k.val) :
    val_main_v15 (F := Ideal) x (ix5 b c k g d) = x (ix3 b (Args.keyPos c k) ⟨64 * g.val + d.val, by omega⟩) :=
  (show val_main_v15 (F := Ideal) x (ix5 b c k g d) = val_main_v11 (F := Ideal) x (ix5 b c k g d) from rfl).trans (key_apply x b c k g d h)

/-- The test of a key's position, as a word. -/
theorem valid_word (c : Fin 256) (k : Fin 192) :
    IntOp.cmpi .sge (IntOp.addi (IntOp.subi (IntOp.muli (BitVec.ofNat 32 c.val) 64#32) 128#32) (BitVec.ofNat 32 k.val)) 0#32
      = if 128 ≤ 64 * c.val + k.val then 1#1 else 0#1 := by
  revert c k
  decide +kernel

theorem valid_apply (b : Fin 2) (c : Fin 256) (g : Fin 2) (m : Fin 4) (a : Fin 64) (k : Fin 192) :
    val_main_call2_v1 (F := Ideal) (ix6 b c g m a k) = if 128 ≤ 64 * c.val + k.val then 1#1 else 0#1 := by
  pointwise [val_main_call2_v1, val_main_v25, val_main_v24, val_main_v23, val_main_c_3, val_main_v22, val_main_v21, val_main_v20,
    val_main_v19, val_main_c_2, val_main_v18, val_main_v17, val_main_c_1, val_main_v16]
  exact valid_word c k

theorem score_apply (A : Args) (b : Fin 2) (c : Fin 256) (g : Fin 2) (m : Fin 4) (a : Fin 64) (k : Fin 192) :
    val_main_v34 (F := Ideal) A.q A.k A.bias (ix6 b c g m a k) = A.score b c a g m k := by
  pointwise [val_main_v34, val_main_call2_v2, val_main_v33, val_main_v32, val_main_v31, val_main_v30, val_main_v29, val_main_cst,
    val_main_v28, val_main_v27, val_main_v26]
  rw [valid_apply, Block.select_ite]
  unfold Args.score headScore
  by_cases h : 128 ≤ 64 * c.val + k.val
  · rw [if_pos h, if_pos h, ofBits_eighth]
    refine congrArg₂ (· + ·) (congrArg (· * eighth) (Finset.sum_congr rfl fun d _ => ?_)) (at3 A.bias rfl (by dsimp; omega) rfl)
    rw [key_apply _ _ _ _ _ _ h, query_apply, mul_comm]
  · rw [if_neg h, if_neg h]
    exact ofBits_bot

/-! ## The softmax with a sink, of any scores -/

/-- The indices that reduce to one row are the row's. -/
theorem row_fiber (b : Fin 2) (c : Fin 256) (g : Fin 2) (m : Fin 4) (a : Fin 64) (i : S2x256x2x4x64x192.Idx) :
    reducesTo_S2x256x2x4x64x192_S2x256x2x4x64_d5.drop i = ix5 b c g m a ↔ ∃ k : Fin 192, ix6 b c g m a k = i := by
  constructor
  · intro e
    refine ⟨i 5, funext fun x => Fin.ext ?_⟩
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    refine funext fun x => Fin.ext ?_
    match x with
    | ⟨0, _⟩ => rfl
    | ⟨1, _⟩ => rfl
    | ⟨2, _⟩ => rfl
    | ⟨3, _⟩ => rfl
    | ⟨4, _⟩ => rfl

section Softmax

variable (s : FVec Ideal S2x256x2x4x64x192 .f32) (t : FVec Ideal S8 .f32)

/-- The greatest score of each row. -/
def rowTop : FVec Ideal S2x256x2x4x64 .f32 :=
  Host.reduce FloatOps.maximumf s (constant S_ .f32 0xFF800000#32) reducesTo_S2x256x2x4x64x192_S2x256x2x4x64_d5 h_S_

/-- The sinks, one for each row. -/
def sinks : FVec Ideal S2x256x2x4x64x1 .f32 :=
  broadcastInDim S2x256x2x4x64x1 ![0, 1, 2, 3, 4, 5] bcast_S1x1x2x4x1x1_S2x256x2x4x64x1_0_1_2_3_4_5
    (broadcastInDim S1x1x2x4x1x1 ![2, 3, 4, 5] bcast_S2x4x1x1_S1x1x2x4x1x1_2_3_4_5
      (broadcastInDim S2x4x1x1 ![0, 1] bcast_S2x4_S2x4x1x1_0_1 (shapeCast S2x4 t shapeCasts_S8_S2x4)))

/-- One number for each row, as a column. -/
def column (x : FVec Ideal S2x256x2x4x64 .f32) : FVec Ideal S2x256x2x4x64x1 .f32 :=
  broadcastInDim S2x256x2x4x64x1 ![0, 1, 2, 3, 4] bcast_S2x256x2x4x64_S2x256x2x4x64x1_0_1_2_3_4 x

/-- The greatest of each row's scores and its sink. -/
def top : FVec Ideal S2x256x2x4x64x1 .f32 := maximumf (column (rowTop s)) (sinks t)

/-- The exponentials. -/
def exps : FVec Ideal S2x256x2x4x64x192 .f32 :=
  Host.exp (subf s (broadcastInDim S2x256x2x4x64x192 ![0, 1, 2, 3, 4, 5] bcast_S2x256x2x4x64x1_S2x256x2x4x64x192_0_1_2_3_4_5 (top s t)))

/-- The sums of the rows of an array. -/
def rowSum : FVec Ideal S2x256x2x4x64 .f32 :=
  Host.reduceAdd s (constant S_ .f32 0x00000000#32) reducesTo_S2x256x2x4x64x192_S2x256x2x4x64_d5 h_S_

/-- The denominators. -/
def den : FVec Ideal S2x256x2x4x64x1 .f32 :=
  addf (column (rowSum (exps s t)))
    (Host.exp (subf (sinks t) (top s t)))

/-- The weights. -/
def probs : FVec Ideal S2x256x2x4x64x192 .f32 :=
  Host.divf (exps s t) (broadcastInDim S2x256x2x4x64x192 ![0, 1, 2, 3, 4, 5] bcast_S2x256x2x4x64x1_S2x256x2x4x64x192_0_1_2_3_4_5 (den s t))

variable (b : Fin 2) (c : Fin 256) (g : Fin 2) (m : Fin 4) (a : Fin 64)

theorem rowTop_apply : rowTop s (ix5 b c g m a) = (Finset.univ : Finset (Fin 192)).fold max ⊥ fun k => s (ix6 b c g m a k) := by
  unfold rowTop
  rw [Host.reduce_eq_fold]
  refine (Finset.fold_filter_eq_fold_of_fiber (FloatOps.maximumf (F := Ideal) (φ := .f32)) _ (fun k : Fin 192 => ix6 b c g m a k)
    (fun _ _ e => congrFun e 5) (row_fiber b c g m a) _ s).trans ?_
  rw [show constant (F := Ideal) S_ .f32 0xFF800000#32 (Shape.Idx.first h_S_) = ⊥ from ofBits_bot]
  rfl

theorem rowSum_apply : rowSum s (ix5 b c g m a) = ∑ k, s (ix6 b c g m a k) := by
  have h : rowSum s (ix5 b c g m a) = (constant (F := Ideal) S_ .f32 0x00000000#32 (Shape.Idx.first h_S_) : EReal)
      + ∑ i ∈ Finset.univ.filter (fun i => reducesTo_S2x256x2x4x64x192_S2x256x2x4x64_d5.drop i = ix5 b c g m a), s i := rfl
  rw [h, show constant (F := Ideal) S_ .f32 0x00000000#32 (Shape.Idx.first h_S_) = (0 : EReal) from Ideal.ofBits_zero_f32, zero_add]
  exact Finset.sum_filter_eq_sum_of_fiber _ (fun k : Fin 192 => ix6 b c g m a k) (fun _ _ e => congrFun e 5) (row_fiber b c g m a) s

theorem sinks_apply : sinks t (ix6 b c g m a 0) = t (ix1 ⟨4 * g.val + m.val, by omega⟩) := by
  pointwise [sinks]
  exact congrArg (fun n => t (ix1 n)) (Fin.ext (by dsimp; omega))

theorem column_apply (x : FVec Ideal S2x256x2x4x64 .f32) : column x (ix6 b c g m a 0) = x (ix5 b c g m a) := by
  pointwise [column]

theorem top_apply : top s t (ix6 b c g m a 0) = sinkMax (fun k => s (ix6 b c g m a k)) (t (ix1 ⟨4 * g.val + m.val, by omega⟩)) := by
  unfold top
  rw [maximumf_at, column_apply, rowTop_apply, sinks_apply]
  unfold sinkMax
  exact rfl

theorem exps_apply (k : Fin 192) : exps s t (ix6 b c g m a k)
    = Ideal.exp (s (ix6 b c g m a k) - sinkMax (fun k => s (ix6 b c g m a k)) (t (ix1 ⟨4 * g.val + m.val, by omega⟩))) := by
  pointwise [exps]
  rw [top_apply]

theorem den_apply : den s t (ix6 b c g m a 0) = sinkDen (fun k => s (ix6 b c g m a k)) (t (ix1 ⟨4 * g.val + m.val, by omega⟩)) := by
  pointwise [den]
  rw [column_apply, rowSum_apply, sinks_apply, top_apply]
  simp only [exps_apply]
  rfl

theorem probs_apply (k : Fin 192) : probs s t (ix6 b c g m a k)
    = sinkWeight (fun k => s (ix6 b c g m a k)) (t (ix1 ⟨4 * g.val + m.val, by omega⟩)) k := by
  pointwise [probs]
  rw [den_apply, exps_apply]
  rfl

end Softmax

theorem probs_eq (A : Args) : val_main_v53 (F := Ideal) A.q A.k A.bias A.sink = probs (val_main_v34 (F := Ideal) A.q A.k A.bias) A.sink := rfl

/-- The reference's window attention is `Args.attn`. -/
theorem attn_apply (A : Args) (hA : A.Finite) (b : Fin 2) (c : Fin 256) (a : Fin 64) (e : Fin 512) :
    val_main_v56 (F := Ideal) A.q A.k A.v A.bias A.sink (ix3 b ⟨64 * c.val + a.val, by omega⟩ e)
      = A.attn b c a ⟨e.val / 256, by omega⟩ ⟨e.val / 64 % 4, by omega⟩ ⟨e.val % 64, by omega⟩ := by
  pointwise [val_main_v56, val_main_v55, val_main_v54]
  rw [probs_eq]
  simp only [probs_apply, score_apply]
  obtain ⟨t, ht⟩ := hA.sink (ix1 ⟨4 * (e.val / 256) + e.val / 64 % 4, by omega⟩)
  unfold Args.attn
  rw [ht]
  refine (Finset.sum_congr rfl fun k _ => mul_comm _ _).trans ?_
  refine sinkSum_congr _ t (fun k => hA.score_ne_top _ _ _ _ _ k) _ _ fun k hk => ?_
  refine val_apply _ _ _ _ _ _ ?_
  by_contra h
  exact hk (if_neg h)

end Ref

end Cert.Mix

end
-- ==== Proof.RefMemory.lean ====
/-
  The reference's memory attention, read at an index in extended reals: it is `Args.mem`.
-/
module

public import proofs.«01_k».proof.Proof.RefWindow

@[expose] public section

noncomputable section

namespace Cert.Mix.Ref

open Cert.ReferenceIdeal Cert.ReferenceIdeal.Gen Cert.ReferenceIdeal.Read Idealize.ShloMosaic

/-- Dividing by the root of 128 is multiplying by its inverse. -/
theorem div_root (x : EReal) : Ideal.div x (Ideal.sqrt (Ideal.ofBits .f32 0x43000000#32)) = x * (((Real.sqrt 128)⁻¹ : ℝ) : EReal) := by
  have h : Ideal.ofBits .f32 0x43000000#32 = ((128 : ℝ) : EReal) := by
    simp [Ideal.ofBits, Ideal.ieee, -EReal.coe_mul]; norm_num
  rw [h, Ideal.sqrt_coe, if_neg (by norm_num), Ideal.div_coe (by positivity), one_div]

theorem memScore_apply (A : Args) (b : Fin 2) (h : Fin 4) (n : Fin 16384) (k : Fin 256) :
    val_main_v63 (F := Ideal) A.qm A.memK (ix4 b h n k)
      = memScore (fun d => A.qm (ix3 b n ⟨128 * h.val + d.val, by omega⟩)) (fun m d => A.memK (ix3 b ⟨4 * m.val + h.val, by omega⟩ d)) k := by
  pointwise [val_main_v63, val_main_v62, val_main_v61, val_main_v60, val_main_cst_7, val_main_v57, val_main_v58]
  refine (div_root _).trans ?_
  unfold memScore
  congr 1
  refine Finset.sum_congr rfl fun d _ => congrArg₂ (· * ·) ?_ ?_
  · exact congrArg (fun x => A.qm (ix3 b n x)) (Fin.ext (by dsimp; omega))
  · exact congrArg (fun x => A.memK (ix3 b x d)) (Fin.ext (by dsimp; omega))

section Softmax

variable (s : FVec Ideal S2x4x16384x256 .f32)

/-- The greatest score of each row. -/
def memFold : FVec Ideal S2x4x16384 .f32 :=
  Host.reduce FloatOps.maximumf s (constant S_ .f32 0xFF800000#32) reducesTo_S2x4x16384x256_S2x4x16384_d3 h_S_

/-- −∞ in every row. -/
def memBottom : FVec Ideal S2x4x16384 .f32 := broadcastInDim S2x4x16384 ![] bcast_S_S2x4x16384 (constant S_ .f32 0xFF800000#32)

/-- The same, compared with −∞. -/
def memTop : FVec Ideal S2x4x16384 .f32 := maximumf memBottom (memFold s)

/-- The exponentials. -/
def memExps : FVec Ideal S2x4x16384x256 .f32 :=
  Host.exp (subf s (broadcastInDim S2x4x16384x256 ![0, 1, 2, 3] bcast_S2x4x16384x1_S2x4x16384x256_0_1_2_3
    (broadcastInDim S2x4x16384x1 ![0, 1, 2] bcast_S2x4x16384_S2x4x16384x1_0_1_2 (memTop s))))

/-- The sums of the rows of an array. -/
def memRowSum : FVec Ideal S2x4x16384 .f32 :=
  Host.reduceAdd s (constant S_ .f32 0x00000000#32) reducesTo_S2x4x16384x256_S2x4x16384_d3 h_S_

/-- The weights. -/
def memProbs : FVec Ideal S2x4x16384x256 .f32 :=
  Host.divf (memExps s) (broadcastInDim S2x4x16384x256 ![0, 1, 2, 3] bcast_S2x4x16384x1_S2x4x16384x256_0_1_2_3
    (broadcastInDim S2x4x16384x1 ![0, 1, 2] bcast_S2x4x16384_S2x4x16384x1_0_1_2 (memRowSum (memExps s))))

variable (b : Fin 2) (h : Fin 4) (n : Fin 16384)

theorem memFold_apply : memFold s (ix3 b h n) = rowMax fun k => s (ix4 b h n k) := by
  unfold memFold
  rw [Host.reduce_eq_fold]
  refine (Shape.ReducesTo.fold_fiber_r4_a3 reducesTo_S2x4x16384x256_S2x4x16384_d3 (ix3 b h n) (FloatOps.maximumf (F := Ideal) (φ := .f32))
    _ s).trans ?_
  rw [show constant (F := Ideal) S_ .f32 0xFF800000#32 (Shape.Idx.first h_S_) = ⊥ from ofBits_bot]
  rfl

theorem memBottom_apply : memBottom (ix3 b h n) = (⊥ : EReal) := by
  pointwise [memBottom]
  exact ofBits_bot

theorem memTop_apply : memTop s (ix3 b h n) = rowMax fun k => s (ix4 b h n k) := by
  unfold memTop
  rw [maximumf_at, memBottom_apply, memFold_apply, bot_sup_eq]

theorem memExps_apply (k : Fin 256) : memExps s (ix4 b h n k) = Ideal.exp (s (ix4 b h n k) - rowMax fun k => s (ix4 b h n k)) := by
  pointwise [memExps]
  rw [memTop_apply]

theorem memRowSum_apply : memRowSum s (ix3 b h n) = ∑ k, s (ix4 b h n k) := by
  pointwise [memRowSum]

theorem memProbs_apply (k : Fin 256) : memProbs s (ix4 b h n k) = softWeight (fun k => s (ix4 b h n k)) k := by
  pointwise [memProbs]
  rw [memRowSum_apply]
  simp only [memExps_apply]
  rfl

end Softmax

theorem memProbs_eq (A : Args) : val_main_v74 (F := Ideal) A.qm A.memK = memProbs (val_main_v63 (F := Ideal) A.qm A.memK) := rfl

/-- The reference's memory attention is `Args.mem`. -/
theorem mem_apply (A : Args) (b : Fin 2) (n : Fin 16384) (e : Fin 512) :
    val_main_v77 (F := Ideal) A.qm A.memK A.memV (ix3 b n e) = A.mem b n ⟨e.val / 128, by omega⟩ ⟨e.val % 128, by omega⟩ := by
  pointwise [val_main_v77, val_main_v76, val_main_v75, val_main_v59]
  rw [memProbs_eq]
  simp only [memProbs_apply, memScore_apply]
  unfold Args.mem memSum
  refine Finset.sum_congr rfl fun m _ => ?_
  rw [mul_comm]
  exact congrArg (fun x => softWeight _ m * A.memV (ix3 b x _)) (Fin.ext (by dsimp; omega))

end Cert.Mix.Ref

end
-- ==== Proof.RefMerge.lean ====
/-
  The reference's merge of the three branches and its result, read at an index in extended reals: the result is
  `Args.result`.
-/
module

public import proofs.«01_k».proof.Proof.RefMemory

@[expose] public section

noncomputable section

namespace Cert.Mix.Ref

open Cert.ReferenceIdeal Cert.ReferenceIdeal.Gen Cert.ReferenceIdeal.Read Idealize.ShloMosaic

/-! ## Norms, gates and products of whole arrays -/

/-- One over the root mean square of each row. -/
def invRms (x : FVec Ideal S2x16384x1024 .f32) : FVec Ideal S2x16384x1 .f32 :=
  Host.rsqrt (addf (Host.divf (broadcastInDim S2x16384x1 ![0, 1] bcast_S2x16384_S2x16384x1_0_1
      (Host.reduceAdd (mulf x x) (constant S_ .f32 0x00000000#32) reducesTo_S2x16384x1024_S2x16384_d2 h_S_))
    (broadcastInDim S2x16384x1 ![] bcast_S_S2x16384x1 (constant S_ .f32 0x44800000#32)))
    (broadcastInDim S2x16384x1 ![] bcast_S_S2x16384x1 (constant S_ .f32 0x358637BD#32)))

/-- Each row divided by its root mean square and scaled. -/
def rms (x : FVec Ideal S2x16384x1024 .f32) (g : FVec Ideal S1x1024 .f32) : FVec Ideal S2x16384x1024 .f32 :=
  mulf (mulf x (broadcastInDim S2x16384x1024 ![0, 1, 2] bcast_S2x16384x1_S2x16384x1024_0_1_2 (invRms x)))
    (broadcastInDim S2x16384x1024 ![0, 1, 2] bcast_S1x1x1024_S2x16384x1024_0_1_2
      (broadcastInDim S1x1x1024 ![1, 2] bcast_S1x1024_S1x1x1024_1_2 g))

theorem invRms_apply (x : FVec Ideal S2x16384x1024 .f32) (b : Fin 2) (n : Fin 16384) :
    invRms x (ix3 b n 0) = Ideal.rsqrt (Ideal.div (∑ k : Fin 1024, x (ix3 b n k) * x (ix3 b n k)) (Ideal.ofBits .f32 0x44800000#32)
      + Ideal.ofBits .f32 0x358637BD#32) := by
  pointwise [invRms]

theorem rms_apply (x : FVec Ideal S2x16384x1024 .f32) (g : FVec Ideal S1x1024 .f32) (b : Fin 2) (n : Fin 16384) (l : Fin 1024) :
    rms x g (ix3 b n l) = rmsRow (fun l => x (ix3 b n l)) (fun l => g (ix2 0 l)) l := by
  pointwise [rms]
  rw [invRms_apply]
  rfl

/-- A branch of 512 lanes times its weights. -/
def branch (x : FVec Ideal S2x16384x512 .f32) (w : FVec Ideal S512x1024 .bf16) : FVec Ideal S2x16384x1024 .f32 :=
  Host.dotGeneral dot_S2x16384x512_S512x1024_S2x16384x1024_2_0_01_1_n_n none x (extf .f32 w bitsLt_bf16_f32)

theorem branch_apply (x : FVec Ideal S2x16384x512 .f32) (w : FVec Ideal S512x1024 .bf16) (b : Fin 2) (n : Fin 16384) (l : Fin 1024) :
    branch x w (ix3 b n l) = rowMul (fun e => x (ix3 b n e)) (fun k l => w (ix2 k l)) l := by
  pointwise [branch]
  rfl

/-- The merged rows times the out-projection. -/
def outProj (x : FVec Ideal S2x16384x1024 .f32) (w : FVec Ideal S1024x1024 .bf16) : FVec Ideal S2x16384x1024 .f32 :=
  Host.dotGeneral dot_S2x16384x1024_S1024x1024_S2x16384x1024_2_0_01_1_n_n none x (extf .f32 w bitsLt_bf16_f32)

theorem outProj_apply (x : FVec Ideal S2x16384x1024 .f32) (w : FVec Ideal S1024x1024 .bf16) (b : Fin 2) (n : Fin 16384) (l : Fin 1024) :
    outProj x w (ix3 b n l) = rowMul (fun e => x (ix3 b n e)) (fun k l => w (ix2 k l)) l := by
  pointwise [outProj]
  rfl

/-- The gates of all three branches, of the normed rows. -/
def gates (x : FVec Ideal S2x16384x1024 .f32) (w : FVec Ideal S1024x4864 .bf16) : FVec Ideal S2x16384x3072 .f32 :=
  Host.divf (broadcastInDim S2x16384x3072 ![] bcast_S_S2x16384x3072 (constant S_ .f32 0x3F800000#32))
    (addf (broadcastInDim S2x16384x3072 ![] bcast_S_S2x16384x3072 (constant S_ .f32 0x3F800000#32))
      (Host.exp (Host.negf (Host.dotGeneral dot_S2x16384x1024_S1024x3072_S2x16384x3072_2_0_01_1_n_n none x
        (extractStridedSlice S1024x3072 ![0, 1792] (extf .f32 w bitsLt_bf16_f32) slices_S1024x4864_S1024x3072_0_1792)))))

theorem gates_apply (x : FVec Ideal S2x16384x1024 .f32) (w : FVec Ideal S1024x4864 .bf16) (b : Fin 2) (n : Fin 16384) (i : Fin 3)
    (l : Fin 1024) : gates x w (ix3 b n ⟨1024 * i.val + l.val, by omega⟩)
      = sigmoid (rowMul (fun k => x (ix3 b n k)) (fun k l => w (ix2 k ⟨1792 + 1024 * i.val + l.val, by omega⟩)) l) := by
  pointwise [gates]
  unfold sigmoid rowMul
  refine congrArg (fun s => Ideal.div 1 (1 + Ideal.exp (-s))) (Finset.sum_congr rfl fun k _ => congrArg (x (ix3 b n k) * ·) ?_)
  exact at2 w rfl (by dsimp <;> omega)

section Slices

variable (G : FVec Ideal S2x16384x3072 .f32) (b : Fin 2) (n : Fin 16384) (l : Fin 1024)

theorem slice0_apply : shapeCast S2x16384x1024 (extractStridedSlice S2x16384x1x1024 ![0, 0, 0, 0]
    (shapeCast S2x16384x3x1024 G shapeCasts_S2x16384x3072_S2x16384x3x1024) slices_S2x16384x3x1024_S2x16384x1x1024_0_0_0_0)
    shapeCasts_S2x16384x1x1024_S2x16384x1024 (ix3 b n l) = G (ix3 b n ⟨1024 * (0 : Fin 3).val + l.val, by simp; omega⟩) := by
  pointwise []

theorem slice1_apply : shapeCast S2x16384x1024 (extractStridedSlice S2x16384x1x1024 ![0, 0, 1, 0]
    (shapeCast S2x16384x3x1024 G shapeCasts_S2x16384x3072_S2x16384x3x1024) slices_S2x16384x3x1024_S2x16384x1x1024_0_0_1_0)
    shapeCasts_S2x16384x1x1024_S2x16384x1024 (ix3 b n l) = G (ix3 b n ⟨1024 * (1 : Fin 3).val + l.val, by simp; omega⟩) := by
  pointwise []

theorem slice2_apply : shapeCast S2x16384x1024 (extractStridedSlice S2x16384x1x1024 ![0, 0, 2, 0]
    (shapeCast S2x16384x3x1024 G shapeCasts_S2x16384x3072_S2x16384x3x1024) slices_S2x16384x3x1024_S2x16384x1x1024_0_0_2_0)
    shapeCasts_S2x16384x1x1024_S2x16384x1024 (ix3 b n l) = G (ix3 b n ⟨1024 * (2 : Fin 3).val + l.val, by simp; omega⟩) := by
  pointwise []

end Slices

/-! ## The stages -/

section Stages

variable (A : Args) (b : Fin 2) (n : Fin 16384) (l : Fin 1024)

theorem input_apply : val_main_v78 (F := Ideal) A.x1 (ix3 b n l) = A.x1 (ix2 ⟨16384 * b.val + n.val, by omega⟩ l) := by
  pointwise [val_main_v78]
  exact at2 A.x1 (by dsimp <;> omega) (by dsimp <;> omega)

theorem rec_apply (e : Fin 512) : val_main_v95 (F := Ideal) A.y (ix3 b n e) = A.y (ix2 ⟨16384 * b.val + n.val, by omega⟩ e) := by
  pointwise [val_main_v95]
  exact at2 A.y (by dsimp <;> omega) (by dsimp <;> omega)

/-- The recurrence's output times both halves of its weights, the second a gate of the first. -/
def glu (y : FVec Ideal S2x16384x512 .f32) (w : FVec Ideal S512x2048 .bf16) : FVec Ideal S2x16384x1024 .f32 :=
  mulf (extractStridedSlice S2x16384x1024 ![0, 0, 0] (Host.dotGeneral dot_S2x16384x512_S512x2048_S2x16384x2048_2_0_01_1_n_n none y
      (extf .f32 w bitsLt_bf16_f32)) slices_S2x16384x2048_S2x16384x1024_0_0_0)
    (Host.divf (broadcastInDim S2x16384x1024 ![] bcast_S_S2x16384x1024 (constant S_ .f32 0x3F800000#32))
      (addf (broadcastInDim S2x16384x1024 ![] bcast_S_S2x16384x1024 (constant S_ .f32 0x3F800000#32))
        (Host.exp (Host.negf (extractStridedSlice S2x16384x1024 ![0, 0, 1024]
          (Host.dotGeneral dot_S2x16384x512_S512x2048_S2x16384x2048_2_0_01_1_n_n none y (extf .f32 w bitsLt_bf16_f32))
          slices_S2x16384x2048_S2x16384x1024_0_0_1024)))))

theorem glu_apply (y : FVec Ideal S2x16384x512 .f32) (w : FVec Ideal S512x2048 .bf16) :
    glu y w (ix3 b n l) = rowMul (fun e => y (ix3 b n e)) (fun k l => w (ix2 k ⟨1024 * (0 : Fin 2).val + l.val, by simp; omega⟩)) l
      * sigmoid (rowMul (fun e => y (ix3 b n e)) (fun k l => w (ix2 k ⟨1024 * (1 : Fin 2).val + l.val, by simp; omega⟩)) l) := by
  pointwise [glu]
  unfold sigmoid rowMul
  refine congrArg₂ (· * ·) (Finset.sum_congr rfl fun k _ => congrArg (y (ix3 b n k) * ·) ?_)
    (congrArg (fun s => Ideal.div 1 (1 + Ideal.exp (-s))) (Finset.sum_congr rfl fun k _ => congrArg (y (ix3 b n k) * ·) ?_))
  · exact at2 w rfl (by dsimp <;> omega)
  · exact at2 w rfl (by dsimp <;> omega)

/-- The three branches under their gates. -/
def merge (G : FVec Ideal S2x16384x3072 .f32) (a r m : FVec Ideal S2x16384x1024 .f32) : FVec Ideal S2x16384x1024 .f32 :=
  addf (addf
    (mulf (shapeCast S2x16384x1024 (extractStridedSlice S2x16384x1x1024 ![0, 0, 0, 0]
      (shapeCast S2x16384x3x1024 G shapeCasts_S2x16384x3072_S2x16384x3x1024) slices_S2x16384x3x1024_S2x16384x1x1024_0_0_0_0)
      shapeCasts_S2x16384x1x1024_S2x16384x1024) a)
    (mulf (shapeCast S2x16384x1024 (extractStridedSlice S2x16384x1x1024 ![0, 0, 1, 0]
      (shapeCast S2x16384x3x1024 G shapeCasts_S2x16384x3072_S2x16384x3x1024) slices_S2x16384x3x1024_S2x16384x1x1024_0_0_1_0)
      shapeCasts_S2x16384x1x1024_S2x16384x1024) r))
    (mulf (shapeCast S2x16384x1024 (extractStridedSlice S2x16384x1x1024 ![0, 0, 2, 0]
      (shapeCast S2x16384x3x1024 G shapeCasts_S2x16384x3072_S2x16384x3x1024) slices_S2x16384x3x1024_S2x16384x1x1024_0_0_2_0)
      shapeCasts_S2x16384x1x1024_S2x16384x1024) m)

theorem addmul3_at {s : Shape} (p a q r o m : FVec Ideal s .f32) (i : s.Idx) :
    addf (addf (mulf p a) (mulf q r)) (mulf o m) i = p i * a i + q i * r i + (o i * m i : EReal) := rfl

theorem merge_apply (G : FVec Ideal S2x16384x3072 .f32) (a r m : FVec Ideal S2x16384x1024 .f32) :
    merge G a r m (ix3 b n l) = G (ix3 b n ⟨1024 * (0 : Fin 3).val + l.val, by simp; omega⟩) * a (ix3 b n l)
      + G (ix3 b n ⟨1024 * (1 : Fin 3).val + l.val, by simp; omega⟩) * r (ix3 b n l)
      + (G (ix3 b n ⟨1024 * (2 : Fin 3).val + l.val, by simp; omega⟩) * m (ix3 b n l) : EReal) := by
  unfold merge
  rw [addmul3_at, slice0_apply, slice1_apply, slice2_apply]

/-- The rows before the result's, as the reference computes them. -/
def mixArr (x : FVec Ideal S2x16384x1024 .f32) (a mm y : FVec Ideal S2x16384x512 .f32) (gpre : FVec Ideal S1x1024 .f32)
    (win : FVec Ideal S1024x4864 .bf16) (wglu : FVec Ideal S512x2048 .bf16) (wab wmb : FVec Ideal S512x1024 .bf16)
    (wo : FVec Ideal S1024x1024 .bf16) (gpost : FVec Ideal S1x1024 .f32) : FVec Ideal S2x16384x1024 .f32 :=
  addf x (rms (outProj (merge (gates (rms x gpre) win) (branch a wab) (glu y wglu) (branch mm wmb)) wo) gpost)

theorem add_at {s : Shape} (x y : FVec Ideal s .f32) (i : s.Idx) : addf x y i = (x i + y i : EReal) := rfl

theorem mixArr_apply (x : FVec Ideal S2x16384x1024 .f32) (a mm y : FVec Ideal S2x16384x512 .f32) :
    mixArr x a mm y A.gpre A.win A.glu A.wab A.wmb A.wo A.gpost (ix3 b n l)
      = mixRow A.weights (fun l => x (ix3 b n l)) (fun e => a (ix3 b n e)) (fun e => y (ix3 b n e)) (fun e => mm (ix3 b n e)) l := by
  unfold mixArr mixRow
  rw [add_at, rms_apply]
  simp only [outProj_apply, merge_apply, gates_apply, branch_apply, glu_apply, rms_apply]
  rfl

/-- The stage before the result, by the parts named here. -/
theorem stage144 : val_main_v144 (F := Ideal) A.q A.k A.v A.bias A.sink A.qm A.memK A.memV A.x1 A.y A.gpre A.win A.glu A.wab A.wmb A.wo A.gpost
    = mixArr (val_main_v78 (F := Ideal) A.x1) (val_main_v56 (F := Ideal) A.q A.k A.v A.bias A.sink)
      (val_main_v77 (F := Ideal) A.qm A.memK A.memV) (val_main_v95 (F := Ideal) A.y) A.gpre A.win A.glu A.wab A.wmb A.wo A.gpost := rfl

end Stages

theorem flat_apply (x : FVec Ideal S2x16384x1024 .f32) (r : Fin 32768) (l : Fin 1024) :
    shapeCast S32768x1024 x shapeCasts_S2x16384x1024_S32768x1024 (ix2 r l)
      = x (ix3 ⟨r.val / 16384, by omega⟩ ⟨64 * (r.val / 64 % 256) + r.val % 64, by omega⟩ l) := by
  pointwise []
  exact at3 x (by dsimp <;> omega) (by dsimp <;> omega) (by dsimp <;> omega)

/-- The reference's result is the mixer's. -/
theorem result_eq (A : Args) (hA : A.Finite) :
    val_main_v145 (F := Ideal) A.q A.k A.v A.bias A.sink A.qm A.memK A.memV A.x1 A.y A.gpre A.win A.glu A.wab A.wmb A.wo A.gpost = A.result := by
  funext i
  obtain ⟨r, l, rfl⟩ : ∃ (r : Fin 32768) (l : Fin 1024), i = ix2 r l := ⟨i 0, i 1, by
    funext a
    match a with
    | 0 => rfl
    | 1 => rfl⟩
  have hb : r.val / 16384 < 2 := by omega
  have hc : r.val / 64 % 256 < 256 := by omega
  have ha : r.val % 64 < 64 := by omega
  have hn : 64 * (r.val / 64 % 256) + r.val % 64 < 16384 := by omega
  unfold val_main_v145
  rw [stage144, flat_apply, mixArr_apply]
  show _ = A.mixed ⟨r.val / 16384, hb⟩ ⟨r.val / 64 % 256, hc⟩ ⟨r.val % 64, ha⟩ l
  unfold Args.mixed
  simp only [input_apply, rec_apply, mem_apply]
  have h := fun e : Fin 512 => attn_apply A hA ⟨r.val / 16384, hb⟩ ⟨r.val / 64 % 256, hc⟩ ⟨r.val % 64, ha⟩ e
  simp only [] at h
  simp only [h, Nat.add_assoc]

end Cert.Mix.Ref

end
-- ==== Proof.Precondition.lean ====
/-
  What the precondition says of the arguments: the arrays the attentions' scores are made of hold real numbers.
-/
module

public import proofs.«01_k».proof.Pre_finite_attention
public import proofs.«01_k».proof.Proof.Rows
public import Idealize.ShloMosaic.Lib.ReduceAll

@[expose] public section

noncomputable section

namespace Cert.Mix.Pre

open Cert.Pre_finite_attention Idealize.ShloMosaic

theorem facts : Cert.Pre_finite_attention.Facts where
  bcast_S_S2x16384x512 := by decide
  reducesTo_S2x16384x512_S_d0_1_2 := by decide
  h_S_ := by decide
  bcast_S_S2x16384x128 := by decide
  reducesTo_S2x16384x128_S_d0_1_2 := by decide
  bcast_S_S2x256x192 := by decide
  reducesTo_S2x256x192_S_d0_1_2 := by decide
  bcast_S_S8 := by decide
  reducesTo_S8_S_d0 := by decide
  bcast_S_S2x1024x128 := by decide
  reducesTo_S2x1024x128_S_d0_1_2 := by decide

/-- A number whose absolute value compares below +∞ is real. -/
theorem isReal_of_cmp (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x with
  | bot => simp [Ideal.cmp] at h
  | coe r => exact ⟨r, rfl⟩
  | top => simp [Ideal.cmp] at h

/-- An array all of whose numbers are below +∞ in absolute value holds reals. -/
theorem isReal_of_all {s : Shape} {axes : List (Fin s.rank)} (x : FVec Ideal s .f32)
    (hb : S_.BroadcastsInDim s (![] : Fin 0 → Fin s.rank)) (h : s.ReducesTo axes S_) (hu : 0 < S_.numel) (j : S_.Idx)
    (e : Host.reduce IntOp.andi (cmpf .olt (Host.absf x) (broadcastInDim s ![] hb (constant S_ .f32 0x7F800000#32)))
      (constantI S_ 1 1#1) h hu j = 1#1) (i : s.Idx) : IsReal (x i) := by
  have : Subsingleton S_.Idx := ⟨fun a b => funext fun k => k.elim0⟩
  exact isReal_of_cmp _ (Host.reduce_andi_all _ _ h hu j e i)

/-- The precondition, of the mixer's arguments. -/
theorem finite_of [Cert.Pre_finite_attention.Facts] (A : Args)
    (h : Cert.Pre_finite_attention.fn (F := Ideal) A.q A.k A.v A.bias A.sink A.qm A.memK A.memV A.x1 A.y A.gpre A.win A.glu A.wab A.wmb
      A.wo A.gpost = fun _ => 1#1) : A.Finite := by
  have e := congrFun h (Shape.Idx.first Facts.h_S_)
  obtain ⟨e, hk⟩ := IntOp.andi_eq_one.1 e
  obtain ⟨e, hqm⟩ := IntOp.andi_eq_one.1 e
  obtain ⟨e, hs⟩ := IntOp.andi_eq_one.1 e
  obtain ⟨e, hb⟩ := IntOp.andi_eq_one.1 e
  obtain ⟨hq, hk'⟩ := IntOp.andi_eq_one.1 e
  exact ⟨isReal_of_all _ _ _ _ _ hq, isReal_of_all _ _ _ _ _ hk', isReal_of_all _ _ _ _ _ hb, isReal_of_all _ _ _ _ _ hs,
    isReal_of_all _ _ _ _ _ hqm, isReal_of_all _ _ _ _ _ hk⟩

end Cert.Mix.Pre

end
-- ==== Proof.FfnIdealFrame.lean ====
/-
  The feed-forward call's run (Kernel2Ideal): what its body leaves in a block, the proof data of its
  pipeline, and its frame. The body stores into the first result's block before point 64 and into the
  second's from there on. The first result's last block is written back at the last point, where the
  body does not touch it: it still holds what point 63 left.
-/
module

public import proofs.«01_k».proof.Proof.Gen.Kernel2Ideal
public import proofs.«01_k».proof.Proof.Gen.Kernel2Ideal.Frame
public import proofs.«01_k».proof.Proof.Gen.Kernel2Ideal.Skeleton
public import Idealize.ShloMosaic.Lib.Claim
public import Idealize.ShloMosaic.Lib.Pipeline.TableIdle

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The rows, normalised. -/
def hid (x : Vec F S256x1024 .f32) (g : Vec F S1x1024 .f32) : FVec F S256x1024 .bf16 := k0_pay5 x g

/-- 512 columns of the gated hidden rows, from the gate's and the value's weights. -/
def gate (h : FVec F S256x1024 .bf16) (a b : Vec F S1024x512 .bf16) : FVec F S256x512 .bf16 := k0_pay8 h a b

/-- The last 256 columns. -/
def gateEnd (h : FVec F S256x1024 .bf16) (a b : Vec F S1024x256 .bf16) : FVec F S256x256 .bf16 :=
  truncf .bf16 (mulf (mulf (matmul dot_S256x1024_S1024x256_S256x256_1_0_0_1_n_n none h a (constant S256x256 .f32 0x00000000#32))
      (logistic (matmul dot_S256x1024_S1024x256_S256x256_1_0_0_1_n_n none h a (constant S256x256 .f32 0x00000000#32))))
    (matmul dot_S256x1024_S1024x256_S256x256_1_0_0_1_n_n none h b (constant S256x256 .f32 0x00000000#32))) bitsLt_bf16_f32

/-- The gated hidden rows, their chunks side by side. -/
def act (h : FVec F S256x1024 .bf16) (wi : Vec F S1024x5632 .bf16) : FVec F S256x2816 .bf16 :=
  concatenate S256x2816 1 [
    ⟨S256x512, gate h (View.ld wi (Rect.unit ![0, 0] S1024x512.size inb_S1024x5632_S1024x512_0_0)) (View.ld wi (Rect.unit ![0, 2816] S1024x512.size inb_S1024x5632_S1024x512_0_2816))⟩,
    ⟨S256x512, gate h (View.ld wi (Rect.unit ![0, 512] S1024x512.size inb_S1024x5632_S1024x512_0_512)) (View.ld wi (Rect.unit ![0, 3328] S1024x512.size inb_S1024x5632_S1024x512_0_3328))⟩,
    ⟨S256x512, gate h (View.ld wi (Rect.unit ![0, 1024] S1024x512.size inb_S1024x5632_S1024x512_0_1024)) (View.ld wi (Rect.unit ![0, 3840] S1024x512.size inb_S1024x5632_S1024x512_0_3840))⟩,
    ⟨S256x512, gate h (View.ld wi (Rect.unit ![0, 1536] S1024x512.size inb_S1024x5632_S1024x512_0_1536)) (View.ld wi (Rect.unit ![0, 4352] S1024x512.size inb_S1024x5632_S1024x512_0_4352))⟩,
    ⟨S256x512, gate h (View.ld wi (Rect.unit ![0, 2048] S1024x512.size inb_S1024x5632_S1024x512_0_2048)) (View.ld wi (Rect.unit ![0, 4864] S1024x512.size inb_S1024x5632_S1024x512_0_4864))⟩,
    ⟨S256x256, gateEnd h (View.ld wi (Rect.unit ![0, 2560] S1024x256.size inb_S1024x5632_S1024x256_0_2560)) (View.ld wi (Rect.unit ![0, 5376] S1024x256.size inb_S1024x5632_S1024x256_0_5376))⟩]
    concatenates_S256x512_S256x512_S256x512_S256x512_S256x512_S256x256_S256x2816_d1

/-- The hidden rows projected back. -/
def proj (a : FVec F S256x2816 .bf16) (wo : Vec F S2816x1024 .bf16) : FVec F S256x1024 .f32 :=
  matmul dot_S256x2816_S2816x1024_S256x1024_1_0_0_1_n_n none a wo (constant S256x1024 .f32 0x00000000#32)

/-- Half a block through the layer. -/
def half (x : Vec F S256x1024 .f32) (gi go : Vec F S1x1024 .f32) (wi : Vec F S1024x5632 .bf16) (wo : Vec F S2816x1024 .bf16) : Vec F S256x1024 .f32 :=
  k0_pay2 x (View.ld go (Rect.unit ![0, 0] S1x1024.size inb_S1x1024_S1x1024_0_0))
    (proj (act (hid x (View.ld gi (Rect.unit ![0, 0] S1x1024.size inb_S1x1024_S1x1024_0_0))) wi)
      (View.ld wo (Rect.unit ![0, 0] S2816x1024.size inb_S2816x1024_S2816x1024_0_0)))

/-- The two stores of a block, the later first. -/
def pieces (x : Vec F S512x1024 .f32) (gi go : Vec F S1x1024 .f32) (wi : Vec F S1024x5632 .bf16) (wo : Vec F S2816x1024 .bf16) :
    List (View.Piece (Elt F) S512x1024 .f32) :=
  [⟨Rect.unit ![256, 0] S256x1024.size inb_S512x1024_S256x1024_256_0,
      half (View.ld x (Rect.unit ![256, 0] S256x1024.size inb_S512x1024_S256x1024_256_0)) gi go wi wo⟩,
   ⟨Rect.unit ![0, 0] S256x1024.size inb_S512x1024_S256x1024_0_0,
      half (View.ld x (Rect.unit ![0, 0] S256x1024.size inb_S512x1024_S256x1024_0_0)) gi go wi wo⟩]

/-- They fill the block. -/
theorem cover (x : Vec F S512x1024 .f32) (gi go : Vec F S1x1024 .f32) (wi : Vec F S1024x5632 .bf16) (wo : Vec F S2816x1024 .bf16)
    (y : S512x1024.Idx) : ∃ p ∈ pieces x gi go wi wo, y ∈ p.1.set :=
  View.cover_of_tiledL (pieces x gi go wi wo) S256x1024.size (by sl_kernel_rfl) y

/-- A block through the layer. -/
def block (x : Vec F S512x1024 .f32) (gi go : Vec F S1x1024 .f32) (wi : Vec F S1024x5632 .bf16) (wo : Vec F S2816x1024 .bf16) : Vec F S512x1024 .f32 :=
  View.canon (pieces x gi go wi wo)

set_option maxHeartbeats 1000000 in
/-- The body before point 64, on whole staging buffers: it fills the first result's block and leaves the second's. -/
def runFirst (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1024x5632 .bf16) (harg5 : arg5.IsWhole)
    (arg6 : Memref sig .tc .vmem S2816x1024 .bf16) (harg6 : arg6.IsWhole)
    (arg7 : Memref sig .tc .vmem S512x1024 .f32) (harg7 : arg7.IsWhole)
    (arg8 : Memref sig .tc .vmem S512x1024 .f32) (harg8 : arg8.IsWhole)
    (h1 : k0_cond1 i = 1#1) (h2 : ¬k0_cond2 i = 1#1) (xa xb : Vec F S512x1024 .f32) (gi go : Vec F S1x1024 .f32) (wi : Vec F S1024x5632 .bf16) (wo : Vec F S2816x1024 .bf16) :
    { L : List (View.Piece (Elt F) S512x1024 .f32) //
      ∀ (z : Vec F S512x1024 .f32) (E : Set ℕ) (K : PUnit → sProp 𝕄),
        iprop(owns (c : Thread nD τ) arg1 fullShare xa ∗ owns (c : Thread nD τ) arg2 fullShare xb ∗ owns (c : Thread nD τ) arg3 fullShare gi ∗ owns (c : Thread nD τ) arg4 fullShare go ∗ owns (c : Thread nD τ) arg5 fullShare wi ∗ owns (c : Thread nD τ) arg6 fullShare wo ∗ (∃ d, owns (c : Thread nD τ) arg7 fullShare d) ∗ owns (c : Thread nD τ) arg8 fullShare z
            ∗ (iprop(owns (c : Thread nD τ) arg1 fullShare xa ∗ owns (c : Thread nD τ) arg2 fullShare xb ∗ owns (c : Thread nD τ) arg3 fullShare gi ∗ owns (c : Thread nD τ) arg4 fullShare go ∗ owns (c : Thread nD τ) arg5 fullShare wi ∗ owns (c : Thread nD τ) arg6 fullShare wo ∗ (∃ f, arg7.view.loc (c : Thread nD τ) ↦[arg7.view.set]{fullShare} arg7.view.writes (Elt F) f L) ∗ owns (c : Thread nD τ) arg8 fullShare z) -∗ K ⟨⟩))
          ⊢ wp frame (wpE (defs₀ (F := F)) Variants.none c none) E (cc0_ffn2 i arg1 harg1 arg2 harg2 arg3 harg3 arg4 harg4 arg5 harg5 arg6 harg6 arg7 harg7 arg8 harg8) K } := by
  refine ⟨?_, fun z E K => ?run⟩
  case run =>
    simp only [cc0_ffn2_eq_skeleton]; unfold cc0_ffn2_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8
    sl_exec (disch := first | sl_exact h1 | sl_exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; isplitr; · ipureintro; exact harg8.read_unread _
    iexact H8

set_option maxRecDepth 50000 in
set_option maxHeartbeats 0 in
/-- What that run stores: the two halves of the block. -/
theorem runFirst_pieces (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1024x5632 .bf16) (harg5 : arg5.IsWhole)
    (arg6 : Memref sig .tc .vmem S2816x1024 .bf16) (harg6 : arg6.IsWhole)
    (arg7 : Memref sig .tc .vmem S512x1024 .f32) (harg7 : arg7.IsWhole)
    (arg8 : Memref sig .tc .vmem S512x1024 .f32) (harg8 : arg8.IsWhole)
    (h1 : k0_cond1 i = 1#1) (h2 : ¬k0_cond2 i = 1#1) (xa xb : Vec F S512x1024 .f32) (gi go : Vec F S1x1024 .f32) (wi : Vec F S1024x5632 .bf16) (wo : Vec F S2816x1024 .bf16) :
    (runFirst c i arg1 harg1 arg2 harg2 arg3 harg3 arg4 harg4 arg5 harg5 arg6 harg6 arg7 harg7 arg8 harg8 h1 h2 xa xb gi go wi wo).1 = pieces (arg1.view.read (Elt F) (harg1.unread xa)) (arg3.view.read (Elt F) (harg3.unread gi)) (arg4.view.read (Elt F) (harg4.unread go)) (arg5.view.read (Elt F) (harg5.unread wi)) (arg6.view.read (Elt F) (harg6.unread wo)) := rfl

/-- The run, with the stored block named. -/
theorem runFirst_block (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1024x5632 .bf16) (harg5 : arg5.IsWhole)
    (arg6 : Memref sig .tc .vmem S2816x1024 .bf16) (harg6 : arg6.IsWhole)
    (arg7 : Memref sig .tc .vmem S512x1024 .f32) (harg7 : arg7.IsWhole)
    (arg8 : Memref sig .tc .vmem S512x1024 .f32) (harg8 : arg8.IsWhole)
    (h1 : k0_cond1 i = 1#1) (h2 : ¬k0_cond2 i = 1#1) (xa xb : Vec F S512x1024 .f32) (gi go : Vec F S1x1024 .f32) (wi : Vec F S1024x5632 .bf16) (wo : Vec F S2816x1024 .bf16)
    (z : Vec F S512x1024 .f32) (E : Set ℕ) (K : PUnit → sProp 𝕄) :
    iprop(owns (c : Thread nD τ) arg1 fullShare xa ∗ owns (c : Thread nD τ) arg2 fullShare xb ∗ owns (c : Thread nD τ) arg3 fullShare gi ∗ owns (c : Thread nD τ) arg4 fullShare go ∗ owns (c : Thread nD τ) arg5 fullShare wi ∗ owns (c : Thread nD τ) arg6 fullShare wo ∗ (∃ d, owns (c : Thread nD τ) arg7 fullShare d) ∗ owns (c : Thread nD τ) arg8 fullShare z
        ∗ (iprop(owns (c : Thread nD τ) arg1 fullShare xa ∗ owns (c : Thread nD τ) arg2 fullShare xb ∗ owns (c : Thread nD τ) arg3 fullShare gi ∗ owns (c : Thread nD τ) arg4 fullShare go ∗ owns (c : Thread nD τ) arg5 fullShare wi ∗ owns (c : Thread nD τ) arg6 fullShare wo ∗ owns (c : Thread nD τ) arg7 fullShare (block xa gi go wi wo) ∗ owns (c : Thread nD τ) arg8 fullShare z) -∗ K ⟨⟩))
      ⊢ wp frame (wpE (defs₀ (F := F)) Variants.none c none) E (cc0_ffn2 i arg1 harg1 arg2 harg2 arg3 harg3 arg4 harg4 arg5 harg5 arg6 harg6 arg7 harg7 arg8 harg8) K := by
  iintro ⟨H1, H2, H3, H4, H5, H6, H7, H8, Hk⟩
  iapply ((runFirst c i arg1 harg1 arg2 harg2 arg3 harg3 arg4 harg4 arg5 harg5 arg6 harg6 arg7 harg7 arg8 harg8 h1 h2 xa xb gi go wi wo).2 z E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, ⟨%f, H7⟩, H8⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; rw [runFirst_pieces, View.read_writes_eq_canon _ _ _ (cover _ _ _ _ _)]; simp only [Memref.IsWhole.read_unread]; rfl
  iexact H8

set_option maxHeartbeats 1000000 in
/-- The body from point 64 on: it fills the second result's block and leaves the first's. -/
def runSecond (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1024x5632 .bf16) (harg5 : arg5.IsWhole)
    (arg6 : Memref sig .tc .vmem S2816x1024 .bf16) (harg6 : arg6.IsWhole)
    (arg7 : Memref sig .tc .vmem S512x1024 .f32) (harg7 : arg7.IsWhole)
    (arg8 : Memref sig .tc .vmem S512x1024 .f32) (harg8 : arg8.IsWhole)
    (h1 : ¬k0_cond1 i = 1#1) (h2 : k0_cond2 i = 1#1) (xa xb : Vec F S512x1024 .f32) (gi go : Vec F S1x1024 .f32) (wi : Vec F S1024x5632 .bf16) (wo : Vec F S2816x1024 .bf16) :
    { L : List (View.Piece (Elt F) S512x1024 .f32) //
      ∀ (z : Vec F S512x1024 .f32) (E : Set ℕ) (K : PUnit → sProp 𝕄),
        iprop(owns (c : Thread nD τ) arg1 fullShare xa ∗ owns (c : Thread nD τ) arg2 fullShare xb ∗ owns (c : Thread nD τ) arg3 fullShare gi ∗ owns (c : Thread nD τ) arg4 fullShare go ∗ owns (c : Thread nD τ) arg5 fullShare wi ∗ owns (c : Thread nD τ) arg6 fullShare wo ∗ owns (c : Thread nD τ) arg7 fullShare z ∗ (∃ d, owns (c : Thread nD τ) arg8 fullShare d)
            ∗ (iprop(owns (c : Thread nD τ) arg1 fullShare xa ∗ owns (c : Thread nD τ) arg2 fullShare xb ∗ owns (c : Thread nD τ) arg3 fullShare gi ∗ owns (c : Thread nD τ) arg4 fullShare go ∗ owns (c : Thread nD τ) arg5 fullShare wi ∗ owns (c : Thread nD τ) arg6 fullShare wo ∗ owns (c : Thread nD τ) arg7 fullShare z ∗ (∃ f, arg8.view.loc (c : Thread nD τ) ↦[arg8.view.set]{fullShare} arg8.view.writes (Elt F) f L)) -∗ K ⟨⟩))
          ⊢ wp frame (wpE (defs₀ (F := F)) Variants.none c none) E (cc0_ffn2 i arg1 harg1 arg2 harg2 arg3 harg3 arg4 harg4 arg5 harg5 arg6 harg6 arg7 harg7 arg8 harg8) K } := by
  refine ⟨?_, fun z E K => ?run⟩
  case run =>
    simp only [cc0_ffn2_eq_skeleton]; unfold cc0_ffn2_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact h1 | sl_exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

set_option maxRecDepth 50000 in
set_option maxHeartbeats 0 in
/-- What that run stores: the two halves of the block. -/
theorem runSecond_pieces (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1024x5632 .bf16) (harg5 : arg5.IsWhole)
    (arg6 : Memref sig .tc .vmem S2816x1024 .bf16) (harg6 : arg6.IsWhole)
    (arg7 : Memref sig .tc .vmem S512x1024 .f32) (harg7 : arg7.IsWhole)
    (arg8 : Memref sig .tc .vmem S512x1024 .f32) (harg8 : arg8.IsWhole)
    (h1 : ¬k0_cond1 i = 1#1) (h2 : k0_cond2 i = 1#1) (xa xb : Vec F S512x1024 .f32) (gi go : Vec F S1x1024 .f32) (wi : Vec F S1024x5632 .bf16) (wo : Vec F S2816x1024 .bf16) :
    (runSecond c i arg1 harg1 arg2 harg2 arg3 harg3 arg4 harg4 arg5 harg5 arg6 harg6 arg7 harg7 arg8 harg8 h1 h2 xa xb gi go wi wo).1 = pieces (arg2.view.read (Elt F) (harg2.unread xb)) (arg3.view.read (Elt F) (harg3.unread gi)) (arg4.view.read (Elt F) (harg4.unread go)) (arg5.view.read (Elt F) (harg5.unread wi)) (arg6.view.read (Elt F) (harg6.unread wo)) := rfl

/-- The run, with the stored block named. -/
theorem runSecond_block (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1024x5632 .bf16) (harg5 : arg5.IsWhole)
    (arg6 : Memref sig .tc .vmem S2816x1024 .bf16) (harg6 : arg6.IsWhole)
    (arg7 : Memref sig .tc .vmem S512x1024 .f32) (harg7 : arg7.IsWhole)
    (arg8 : Memref sig .tc .vmem S512x1024 .f32) (harg8 : arg8.IsWhole)
    (h1 : ¬k0_cond1 i = 1#1) (h2 : k0_cond2 i = 1#1) (xa xb : Vec F S512x1024 .f32) (gi go : Vec F S1x1024 .f32) (wi : Vec F S1024x5632 .bf16) (wo : Vec F S2816x1024 .bf16)
    (z : Vec F S512x1024 .f32) (E : Set ℕ) (K : PUnit → sProp 𝕄) :
    iprop(owns (c : Thread nD τ) arg1 fullShare xa ∗ owns (c : Thread nD τ) arg2 fullShare xb ∗ owns (c : Thread nD τ) arg3 fullShare gi ∗ owns (c : Thread nD τ) arg4 fullShare go ∗ owns (c : Thread nD τ) arg5 fullShare wi ∗ owns (c : Thread nD τ) arg6 fullShare wo ∗ owns (c : Thread nD τ) arg7 fullShare z ∗ (∃ d, owns (c : Thread nD τ) arg8 fullShare d)
        ∗ (iprop(owns (c : Thread nD τ) arg1 fullShare xa ∗ owns (c : Thread nD τ) arg2 fullShare xb ∗ owns (c : Thread nD τ) arg3 fullShare gi ∗ owns (c : Thread nD τ) arg4 fullShare go ∗ owns (c : Thread nD τ) arg5 fullShare wi ∗ owns (c : Thread nD τ) arg6 fullShare wo ∗ owns (c : Thread nD τ) arg7 fullShare z ∗ owns (c : Thread nD τ) arg8 fullShare (block xb gi go wi wo)) -∗ K ⟨⟩))
      ⊢ wp frame (wpE (defs₀ (F := F)) Variants.none c none) E (cc0_ffn2 i arg1 harg1 arg2 harg2 arg3 harg3 arg4 harg4 arg5 harg5 arg6 harg6 arg7 harg7 arg8 harg8) K := by
  iintro ⟨H1, H2, H3, H4, H5, H6, H7, H8, Hk⟩
  iapply ((runSecond c i arg1 harg1 arg2 harg2 arg3 harg3 arg4 harg4 arg5 harg5 arg6 harg6 arg7 harg7 arg8 harg8 h1 h2 xa xb gi go wi wo).2 z E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, ⟨%f, H8⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; rw [runSecond_pieces, View.read_writes_eq_canon _ _ _ (cover _ _ _ _ _)]; simp only [Memref.IsWhole.read_unread]; rfl

variable (m : (ℓ : Loc nD τ sig) → Buf (Elt F) ℓ) (ρ : Dev nD → PrngReg)

/-- The last point at or before `t` that stores into the first result's block. -/
def upto (t : Fin cfg0.N) : Fin cfg0.N := ⟨min t.val 63, lt_of_lt_of_eq (by omega : min t.val 63 < 66) (N_0 : cfg0.N = 66).symm⟩

/-- The first result's block after point `t`. -/
def first (c : Dev nD) (t : Fin cfg0.N) : Vec F S512x1024 .f32 :=
  block (iblk m c 0 (upto t)) (iblk m c 2 (upto t)) (iblk m c 3 (upto t)) (iblk m c 4 (upto t)) (iblk m c 5 (upto t))

/-- The second result's block after point `t`, from point 64 on. -/
def second (c : Dev nD) (t : Fin cfg0.N) : Vec F S512x1024 .f32 :=
  block (iblk m c 1 t) (iblk m c 2 t) (iblk m c 3 t) (iblk m c 4 t) (iblk m c 5 t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => first m c t
    | ⟨7, _⟩ => second m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = first m c t := by dsimp only [dats]
theorem after_7 (c : Dev nD) (t : Fin cfg0.N) : (dats m 0 c).after 7 t = second m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem leaves_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (cfg0.grid.coords t) = false from rfl, after_5]

/-- Which branch a point takes. -/
theorem cond1 : ∀ t : Fin cfg0.N, k0_cond1 (grid0.coords t) = 1#1 ↔ t.val < 64 :=
  (by decide +kernel : ∀ t : Fin grid0.N, k0_cond1 (grid0.coords t) = 1#1 ↔ t.val < 64)
theorem cond2 : ∀ t : Fin cfg0.N, k0_cond2 (grid0.coords t) = 1#1 ↔ 64 ≤ t.val :=
  (by decide +kernel : ∀ t : Fin grid0.N, k0_cond2 (grid0.coords t) = 1#1 ↔ 64 ≤ t.val)

/-- Which blocks a point leaves alone. -/
theorem idle6 : ∀ t : Fin cfg0.N, cfg0.idle 6 (cfg0.grid.coords t) = decide (64 ≤ t.val) := by decide +kernel
theorem idle7 : ∀ t : Fin cfg0.N, cfg0.idle 7 (cfg0.grid.coords t) = decide (t.val < 64) := by decide +kernel
theorem flush7 : ∀ t : Fin cfg0.N, t.val < 64 → (cfg0.win 7).flush t = false := by decide +kernel
theorem fetch6 : ∀ t : Fin cfg0.N, (cfg0.win 6).fetch t = false := by decide +kernel
theorem flush6 : ∀ t : Fin cfg0.N, 63 ≤ t.val → (cfg0.win 6).flush t = decide (t.val = 65) := by decide +kernel

theorem first_eq (c : Dev nD) {s t : Fin cfg0.N} (h : upto s = upto t) : first m c s = first m c t := by
  unfold first; rw [h]

/-- A point that leaves the first result's block alone has a buffer that is filled. -/
theorem fresh6 : ∀ t : Fin cfg0.N, 64 ≤ t.val → cfg0.fresh 6 t.val = false := by decide +kernel

/-- From point 64 on the first result's buffer holds what point 63 left. -/
theorem before_6 (c : Dev nD) (t : Fin cfg0.N) (h : 64 ≤ t.val) (d) : (dats m 0 c).before 6 t d = first m c t := by
  have back : ∀ t : Fin cfg0.N, 64 ≤ t.val → first m c t = first m c ⟨t.val - 1, by omega⟩ := fun t h =>
    first_eq m c (Fin.ext (by simp only [upto]; omega))
  rw [(dats m 0 c).before_out_traj 6 rfl (fun _ _ => rfl) (fun t _ hi _ => by
    rw [after_6, after_6]
    exact back t (of_decide_eq_true ((idle6 t).symm.trans hi))) t.val t rfl d, fresh6 t h, if_neg Bool.false_ne_true, after_6]
  exact (back t h).symm

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5]
  rw [show (dats m 0 c).Φ t.succ = (dats m 0 c).Φ t.castSucc from rfl,
    show (dats m 0 c).owesAt () t.succ = (dats m 0 c).owesAt () t.castSucc from rfl]
  by_cases h : t.val < 64
  · have e : upto t = t := Fin.ext (min_eq_left (by omega : t.val ≤ 63))
    rw [show (dats m 0 c).leavesExact 6 t = owns (c : Thread nD τ) (st0_6 t) fullShare
        (block (iblk m c 0 t) (iblk m c 2 t) (iblk m c 3 t) (iblk m c 4 t) (iblk m c 5 t)) from by
      unfold Dat.leavesExact; rw [(idle6 t).trans (decide_eq_false (by omega)), after_6]; unfold first; rw [e]]
    rw [Dat.leavesExact_idle (dats m 0 c) 7 t ((idle7 t).trans (decide_eq_true h)) (flush7 t h)]
    iintro ⟨HΦ, Ho, ⟨%d1, H1⟩, ⟨%d2, H2⟩, ⟨%d3, H3⟩, ⟨%d4, H4⟩, ⟨%d5, H5⟩, ⟨%d6, H6⟩, ⟨%d7, H7⟩, ⟨%d8, H8⟩⟩
    iapply (runFirst_block c (grid0.coords t) _ _ _ _ _ _ _ _ _ _ _ _ _ _ _ _ ((cond1 t).mpr h) (fun e => absurd ((cond2 t).mp e) (by omega))
      (iblk m c 0 t) (iblk m c 1 t) (iblk m c 2 t) (iblk m c 3 t) (iblk m c 4 t) (iblk m c 5 t) _ Set.univ _)
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H1, H2, H3, H4, H5, H6, H7, H8⟩
    isplitl [HΦ]; · iexact HΦ
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have h' : 64 ≤ t.val := by omega
    simp only [before_6 m c t h']
    rw [show (dats m 0 c).leavesExact 7 t = owns (c : Thread nD τ) (st0_7 t) fullShare
        (block (iblk m c 1 t) (iblk m c 2 t) (iblk m c 3 t) (iblk m c 4 t) (iblk m c 5 t)) from by
      unfold Dat.leavesExact; rw [(idle7 t).trans (decide_eq_false (by omega)), after_7]; rfl]
    iintro ⟨HΦ, Ho, ⟨%d1, H1⟩, ⟨%d2, H2⟩, ⟨%d3, H3⟩, ⟨%d4, H4⟩, ⟨%d5, H5⟩, ⟨%d6, H6⟩, ⟨%d7, H7⟩, ⟨%d8, H8⟩⟩
    iapply (runSecond_block c (grid0.coords t) _ _ _ _ _ _ _ _ _ _ _ _ _ _ _ _ (fun e => absurd ((cond1 t).mp e) (by omega)) ((cond2 t).mpr h')
      (iblk m c 0 t) (iblk m c 1 t) (iblk m c 2 t) (iblk m c 3 t) (iblk m c 4 t) (iblk m c 5 t) _ Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H1, H2, H3, H4, H5, H6, H7, H8⟩
    isplitl [HΦ]; · iexact HΦ
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]
    · by_cases e : t.val = 65
      · rw [show (dats m 0 c).leavesExact 6 t = owns (c : Thread nD τ) (st0_6 t) fullShare (first m c t) from by
          unfold Dat.leavesExact
          rw [(idle6 t).trans (decide_eq_true h'), (flush6 t (by omega)).trans (decide_eq_true e), after_6]]
        iexact H7
      · rw [Dat.leavesExact_idle (dats m 0 c) 6 t ((idle6 t).trans (decide_eq_true h')) ((flush6 t (by omega)).trans (decide_eq_false e))]
        iexists d7
        rw [before_6 m c t h']
        iexact H7
    iexact H8

/-- The table's row for the body at a point. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The launch: the arrays end at what the proof data say, and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

/-- The frame: the arguments end as they were, and no semaphore is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiet m ρ))

end Cert.Kernel2Ideal.Body

end
-- ==== Proof.FfnRows.lean ====
/-
  The feed-forward layer, one row at a time, in extended reals. The kernel and the reference are each read as these
  functions.
-/
module

public import proofs.«01_k».proof.Proof.Rows

@[expose] public section

noncomputable section

namespace Cert.Ffn

open Idealize.ShloMosaic Cert.Mix

/-- A gated number: a row's product with the gate's weights, times its logistic, times the row's product with the value's. -/
def gated (h a b : Fin 1024 → EReal) : EReal := (∑ k, h k * a k) * sigmoid (∑ k, h k * a k) * ∑ k, h k * b k

/-- The layer's weights, as arrays of extended reals. -/
structure Weights where
  gpre : (⟨2, ![1, 1024]⟩ : Shape).Idx → EReal
  gpost : (⟨2, ![1, 1024]⟩ : Shape).Idx → EReal
  win : (⟨2, ![1024, 5632]⟩ : Shape).Idx → EReal
  wout : (⟨2, ![2816, 1024]⟩ : Shape).Idx → EReal

namespace Weights

/-- The gated hidden row of a normalised row: the gate's weights are the first 2816 columns, the value's the rest. -/
def hidden (W : Weights) (h : Fin 1024 → EReal) (j : Fin 2816) : EReal :=
  gated h (fun k => W.win (ix2 k ⟨j.val, by omega⟩)) (fun k => W.win (ix2 k ⟨2816 + j.val, by omega⟩))

/-- The layer's row: half of the normalised projection is added to the row. -/
def row (W : Weights) (x : Fin 1024 → EReal) (l : Fin 1024) : EReal :=
  x l + Ideal.ofBits .f32 0x3F000000#32
    * rmsRow (rowMul (W.hidden (rmsRow x fun l => W.gpre (ix2 0 l))) fun k l => W.wout (ix2 k l)) (fun l => W.gpost (ix2 0 l)) l

/-- The layer of an array of rows. -/
def layer (W : Weights) {n : ℕ} (x : (⟨2, ![n, 1024]⟩ : Shape).Idx → EReal) (i : (⟨2, ![n, 1024]⟩ : Shape).Idx) : EReal :=
  W.row (fun l => x (ix2 (i 0) l)) (i 1)

end Weights

end Cert.Ffn

end
-- ==== Proof.FfnValue.lean ====
/-
  The feed-forward kernel's two result arrays are the layer of its two arrays of rows: a block is read at an index, the
  windows are the arguments at the rows the grid point stages, and the blocks cover each array.
-/
module

public import proofs.«01_k».proof.Proof.FfnIdealFrame
public import proofs.«01_k».proof.Proof.FfnRows
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.Kernel2Ideal.Body

open Cert.Kernel2Ideal Cert.Kernel2Ideal.Gen Cert.Mix Cert.Ffn
open Idealize.ShloMosaic Idealize.ShloMosaic.TcCoe Idealize.SL.Sem

/-! ## A half block at an index -/

theorem hid_apply (x : Vec Ideal S256x1024 .f32) (g : Vec Ideal S1x1024 .f32) (r : Fin 256) (l : Fin 1024) :
    hid x g (ix2 r l) = rmsRow (fun l => x (ix2 r l)) (fun l => g (ix2 0 l)) l := by
  pointwise [hid, k0_pay5]
  rfl

theorem gate_apply (h : FVec Ideal S256x1024 .bf16) (a b : Vec Ideal S1024x512 .bf16) (r : Fin 256) (j : Fin 512) :
    gate h a b (ix2 r j) = gated (fun k => h (ix2 r k)) (fun k => a (ix2 k j)) (fun k => b (ix2 k j)) := by
  pointwise [gate, k0_pay8]
  rfl

theorem gateEnd_apply (h : FVec Ideal S256x1024 .bf16) (a b : Vec Ideal S1024x256 .bf16) (r : Fin 256) (j : Fin 256) :
    gateEnd h a b (ix2 r j) = gated (fun k => h (ix2 r k)) (fun k => a (ix2 k j)) (fun k => b (ix2 k j)) := by
  pointwise [gateEnd]
  rfl

theorem act_apply (h : FVec Ideal S256x1024 .bf16) (wi : Vec Ideal S1024x5632 .bf16) (r : Fin 256) (j : Fin 2816) :
    act h wi (ix2 r j) = gated (fun k => h (ix2 r k)) (fun k => wi (ix2 k ⟨j.val, by omega⟩))
      (fun k => wi (ix2 k ⟨2816 + j.val, by omega⟩)) := by
  pointwise [act]
  simp only [gate_apply, gateEnd_apply]
  have e : ∀ (a b : Fin 1024 → Fin 5632), (∀ k, (a k).val = j.val) → (∀ k, (b k).val = 2816 + j.val) →
      gated (fun k => h (ix2 r k)) (fun k => wi (ix2 k (a k))) (fun k => wi (ix2 k (b k)))
        = gated (fun k => h (ix2 r k)) (fun k => wi (ix2 k ⟨j.val, by omega⟩)) (fun k => wi (ix2 k ⟨2816 + j.val, by omega⟩)) :=
    fun a b ha hb => by
      rw [show a = fun _ => ⟨j.val, by omega⟩ from funext fun k => Fin.ext (ha k),
        show b = fun _ => ⟨2816 + j.val, by omega⟩ from funext fun k => Fin.ext (hb k)]
  pointwise []
  split_ifs
  all_goals exact e (fun _ => ⟨_, _⟩) (fun _ => ⟨_, _⟩) (fun _ => by dsimp <;> omega) fun _ => by dsimp <;> omega

theorem proj_apply (a : FVec Ideal S256x2816 .bf16) (wo : Vec Ideal S2816x1024 .bf16) (r : Fin 256) (l : Fin 1024) :
    proj a wo (ix2 r l) = rowMul (fun k => a (ix2 r k)) (fun k l => wo (ix2 k l)) l := by
  pointwise [proj]
  rfl

theorem tail_apply (x : Vec Ideal S256x1024 .f32) (g : Vec Ideal S1x1024 .f32) (o : FVec Ideal S256x1024 .f32) (r : Fin 256) (l : Fin 1024) :
    k0_pay2 x g o (ix2 r l) = x (ix2 r l) + Ideal.ofBits .f32 0x3F000000#32 * rmsRow (fun l => o (ix2 r l)) (fun l => g (ix2 0 l)) l := by
  pointwise [k0_pay2]
  rfl

theorem half_apply (x : Vec Ideal S256x1024 .f32) (gi go : Vec Ideal S1x1024 .f32) (wi : Vec Ideal S1024x5632 .bf16)
    (wo : Vec Ideal S2816x1024 .bf16) (r : Fin 256) (l : Fin 1024) :
    half x gi go wi wo (ix2 r l) = (Weights.mk gi go wi wo).row (fun l => x (ix2 r l)) l := by
  have e2 : ∀ y : Vec Ideal S1x1024 .f32, View.ld y (Rect.unit ![0, 0] S1x1024.size inb_S1x1024_S1x1024_0_0) = y := fun y =>
    funext fun i => by
      obtain ⟨a, l, rfl⟩ : ∃ (a : Fin 1) (l : Fin 1024), i = ix2 a l := ⟨i 0, i 1, by
        funext a
        match a with
        | 0 => rfl
        | 1 => rfl⟩
      obtain rfl : a = 0 := Subsingleton.elim _ _
      pointwise []
  have e3 : View.ld wo (Rect.unit ![0, 0] S2816x1024.size inb_S2816x1024_S2816x1024_0_0) = wo := funext fun i => by
    obtain ⟨k, l, rfl⟩ : ∃ (k : Fin 2816) (l : Fin 1024), i = ix2 k l := ⟨i 0, i 1, by
      funext a
      match a with
      | 0 => rfl
      | 1 => rfl⟩
    pointwise []
  unfold half
  rw [tail_apply, e2, e2, e3]
  simp only [proj_apply, act_apply, hid_apply]
  rfl

/-! ## A block at an index -/

theorem block_apply (x : Vec Ideal S512x1024 .f32) (gi go : Vec Ideal S1x1024 .f32) (wi : Vec Ideal S1024x5632 .bf16)
    (wo : Vec Ideal S2816x1024 .bf16) (r : Fin 512) (l : Fin 1024) :
    block x gi go wi wo (ix2 r l) = (Weights.mk gi go wi wo).row (fun l => x (ix2 r l)) l := by
  have hr := r.isLt
  have e : ∀ (n : Nat) (inb) (k : Fin 256) (l : Fin 1024), r.val = n + k.val →
      (ix2 r l : S512x1024.Idx) = (Rect.unit (s := S512x1024) ![n, 0] S256x1024.size inb).emb (ix2 k l) := fun n inb k l hk => by
    funext a
    match a with
    | 0 => exact Fin.ext (show r.val = n + 1 * k.val by omega)
    | 1 => exact Fin.ext (show l.val = 0 + 1 * l.val by omega)
  have f : ∀ (n : Nat) (inb) (k : Fin 256), r.val = n + k.val →
      half (View.ld x (Rect.unit (s := S512x1024) ![n, 0] S256x1024.size inb)) gi go wi wo (ix2 k l)
        = (Weights.mk gi go wi wo).row (fun l => x (ix2 r l)) l := fun n inb k hk => by
    rw [half_apply]
    refine congrArg (fun x => (Weights.mk gi go wi wo).row x l) (funext fun l => ?_)
    show x _ = x _
    rw [e n inb k l hk]
    rfl
  unfold block pieces
  by_cases h : r.val < 256
  · rw [View.canon_cons_of_not_mem]
    · conv_lhs => rw [e 0 inb_S512x1024_S256x1024_0_0 ⟨r.val, h⟩ l (by simp)]
      exact (View.canon_cons_emb _ _ _ _).trans (f 0 _ ⟨r.val, h⟩ (by simp))
    · intro hy
      have h0 : 256 ≤ r.val := ((Rect.mem_set_unit (inb := inb_S512x1024_S256x1024_256_0)).1 hy 0).1
      omega
  · conv_lhs => rw [e 256 inb_S512x1024_S256x1024_256_0 ⟨r.val - 256, by omega⟩ l (by simp only []; omega)]
    exact (View.canon_cons_emb _ _ _ _).trans (f 256 _ ⟨r.val - 256, by omega⟩ (by simp only []; omega))

/-! ## The windows -/

/-- The blocks each window stages at a grid point. -/
theorem place (t : Fin cfg0.N) :
    win0_0.index t = ![min t.val 63, 0] ∧ win0_1.index t = ![t.val - 64, 0]
    ∧ win0_2.index t = ![0, 0] ∧ win0_3.index t = ![0, 0] ∧ win0_4.index t = ![0, 0] ∧ win0_5.index t = ![0, 0]
    ∧ win0_6.index t = ![min t.val 63, 0] ∧ win0_7.index t = ![t.val - 64, 0] :=
  (by decide +kernel : ∀ t : Fin grid0.N,
    win0_0.index t = ![min t.val 63, 0] ∧ win0_1.index t = ![t.val - 64, 0]
    ∧ win0_2.index t = ![0, 0] ∧ win0_3.index t = ![0, 0] ∧ win0_4.index t = ![0, 0] ∧ win0_5.index t = ![0, 0]
    ∧ win0_6.index t = ![min t.val 63, 0] ∧ win0_7.index t = ![t.val - 64, 0]) t

variable (m : (ℓ : Loc nD τ sig) → Buf (Elt Ideal) ℓ) (c : Dev nD) (t : Fin cfg0.N)

/-- The weights a run starts with. -/
def weightsOf : Weights where
  gpre := m ((c : Thread nD τ).loc main_arg2)
  gpost := m ((c : Thread nD τ).loc main_arg3)
  win := m ((c : Thread nD τ).loc main_arg4)
  wout := m ((c : Thread nD τ).loc main_arg5)

theorem point_lt : t.val < 66 := lt_of_lt_of_eq t.isLt (N_0 : cfg0.N = 66)

theorem win_xa (r : Fin 512) (l : Fin 1024) : iblk m c 0 t (ix2 r l)
    = m ((c : Thread nD τ).loc main_arg0) (ix2 ⟨512 * min t.val 63 + r.val, by omega⟩ l) := by
  have h : ∀ X : Buf (Elt Ideal) ((c : Thread nD τ).loc main_arg0), ((cfg0.win 0).blk t).view.read (Elt Ideal) X (ix2 r l)
      = X (ix2 ⟨512 * min t.val 63 + r.val, by omega⟩ l) := fun X => by blk_ext [place t]
  exact (h (V m c main_arg0)).trans (congrFun (V_main_arg0 m c) _)

theorem win_xb (r : Fin 512) (l : Fin 1024) : iblk m c 1 t (ix2 r l)
    = m ((c : Thread nD τ).loc main_arg1) (ix2 ⟨512 * (t.val - 64) + r.val, by have := point_lt t; omega⟩ l) := by
  have ht := point_lt t
  have h : ∀ X : Buf (Elt Ideal) ((c : Thread nD τ).loc main_arg1), ((cfg0.win 1).blk t).view.read (Elt Ideal) X (ix2 r l)
      = X (ix2 ⟨512 * (t.val - 64) + r.val, by omega⟩ l) := fun X => by blk_ext [place t]
  exact (h (V m c main_arg1)).trans (congrFun (V_main_arg1 m c) _)

theorem win_weights : (Weights.mk (iblk m c 2 t) (iblk m c 3 t) (iblk m c 4 t) (iblk m c 5 t)) = weightsOf m c := by
  have h2 : ∀ (X : Buf (Elt Ideal) ((c : Thread nD τ).loc main_arg2)) (i), ((cfg0.win 2).blk t).view.read (Elt Ideal) X i = X i :=
    fun X i => by blk_ext [place t]
  have h3 : ∀ (X : Buf (Elt Ideal) ((c : Thread nD τ).loc main_arg3)) (i), ((cfg0.win 3).blk t).view.read (Elt Ideal) X i = X i :=
    fun X i => by blk_ext [place t]
  have h4 : ∀ (X : Buf (Elt Ideal) ((c : Thread nD τ).loc main_arg4)) (i), ((cfg0.win 4).blk t).view.read (Elt Ideal) X i = X i :=
    fun X i => by blk_ext [place t]
  have h5 : ∀ (X : Buf (Elt Ideal) ((c : Thread nD τ).loc main_arg5)) (i), ((cfg0.win 5).blk t).view.read (Elt Ideal) X i = X i :=
    fun X i => by blk_ext [place t]
  unfold weightsOf
  congr 1
  · exact funext fun i => (h2 (V m c main_arg2) i).trans (congrFun (V_main_arg2 m c) _)
  · exact funext fun i => (h3 (V m c main_arg3) i).trans (congrFun (V_main_arg3 m c) _)
  · exact funext fun i => (h4 (V m c main_arg4) i).trans (congrFun (V_main_arg4 m c) _)
  · exact funext fun i => (h5 (V m c main_arg5) i).trans (congrFun (V_main_arg5 m c) _)

/-! ## The result arrays -/

theorem first_value : (dats m 0 c).arrAt 6 cfg0.N = (weightsOf m c).layer (n := 32768) (m ((c : Thread nD τ).loc main_arg0)) := by
  refine (dats m 0 c).arrAt_eq_of_covers 6 _ (by decide +kernel) fun t hf y => ?_
  blk_simp
  rw [after_6]
  obtain ⟨r, l, rfl⟩ : ∃ (r : Fin 512) (l : Fin 1024), y = ix2 r l := ⟨y 0, y 1, by
    funext a
    match a with
    | 0 => rfl
    | 1 => rfl⟩
  have he : (win0_6.blk t).view.emb (ix2 r l) = ix2 ⟨512 * min t.val 63 + r.val, by omega⟩ l := by blk_ext [place t]
  refine Eq.trans ?_ (congrArg _ he).symm
  unfold first
  refine (block_apply _ _ _ _ _ r l).trans ?_
  rw [win_weights]
  refine congrArg (fun x => (weightsOf m c).row x l) (funext fun l => (win_xa m c (upto t) r l).trans ?_)
  exact congrArg (fun n => m ((c : Thread nD τ).loc main_arg0) (ix2 n l)) (Fin.ext (by simp [upto]))

theorem second_value : (dats m 0 c).arrAt 7 cfg0.N = (weightsOf m c).layer (n := 1024) (m ((c : Thread nD τ).loc main_arg1)) := by
  refine (dats m 0 c).arrAt_eq_of_covers 7 _ (by decide +kernel) fun t hf y => ?_
  blk_simp
  rw [after_7]
  obtain ⟨r, l, rfl⟩ : ∃ (r : Fin 512) (l : Fin 1024), y = ix2 r l := ⟨y 0, y 1, by
    funext a
    match a with
    | 0 => rfl
    | 1 => rfl⟩
  have ht := point_lt t
  have he : (win0_7.blk t).view.emb (ix2 r l) = ix2 ⟨512 * (t.val - 64) + r.val, by omega⟩ l := by blk_ext [place t]
  refine Eq.trans ?_ (congrArg _ he).symm
  unfold second
  refine (block_apply _ _ _ _ _ r l).trans ?_
  rw [win_weights]
  exact congrArg (fun x => (weightsOf m c).row x l) (funext fun l => win_xb m c t r l)

/-- The run, with both result arrays named. -/
theorem run_value (ρ : Dev nD → PrngReg) :
    θ_run defs (onTc (τ := τ) (main (F := Ideal))) ⟨m, fun _ => 0, ρ⟩ fun r => ∀ c : Dev nD,
      r.2.mem ((c.tc : Thread nD τ).loc main_v0_0) = (weightsOf m c).layer (n := 32768) (m ((c : Thread nD τ).loc main_arg0))
      ∧ r.2.mem ((c.tc : Thread nD τ).loc main_v0_1) = (weightsOf m c).layer (n := 1024) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 6).trans (first_value m c), ((h.1 c).1 7).trans (second_value m c), h.2.1 c⟩)
    (θ_run_and (run m ρ) (frame m ρ))

end Cert.Kernel2Ideal.Body

end
-- ==== Proof.FfnReference.lean ====
/-
  The feed-forward reference's two results, read at an index in extended reals: each is the layer of its array of rows.
-/
module

public import proofs.«01_k».proof.Proof.Gen.Reference2Ideal.Read
public import proofs.«01_k».proof.Proof.FfnRows
public import Idealize.ShloMosaic.Lib.Pointwise

@[expose] public section

set_option maxRecDepth 16384

noncomputable section

namespace Cert.Ffn.Ref

open Cert.Reference2Ideal Cert.Reference2Ideal.Gen Cert.Reference2Ideal.Read Cert.Mix Cert.Ffn Idealize.ShloMosaic

/-! ## The rows of the prompts -/

section First

variable (x : FVec Ideal S32768x1024 .f32) (g : FVec Ideal S1x1024 .f32) (r : Fin 32768) (l : Fin 1024)

/-- Each row divided by its root mean square and scaled. -/
def rmsFirst : FVec Ideal S32768x1024 .f32 :=
  mulf (mulf x (broadcastInDim S32768x1024 ![0, 1] bcast_S32768x1_S32768x1024_0_1
      (Host.rsqrt (addf (Host.divf (broadcastInDim S32768x1 ![0] bcast_S32768_S32768x1_0
          (Host.reduceAdd (mulf x x) (constant S_ .f32 0x00000000#32) reducesTo_S32768x1024_S32768_d1 h_S_))
        (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1 g)

theorem rmsFirst_apply : rmsFirst x g (ix2 r l) = rmsRow (fun l => x (ix2 r l)) (fun l => g (ix2 0 l)) l := by
  pointwise [rmsFirst]
  rfl

/-- The gated hidden rows. -/
def hiddenFirst (h : FVec Ideal S32768x1024 .f32) (w : FVec Ideal S1024x5632 .bf16) : FVec Ideal S32768x2816 .f32 :=
  mulf (mulf (extractStridedSlice S32768x2816 ![0, 0] (Host.dotGeneral dot_S32768x1024_S1024x5632_S32768x5632_1_0_0_1_n_n none h
        (extf .f32 w bitsLt_bf16_f32)) slices_S32768x5632_S32768x2816_0_0)
      (Host.divf (broadcastInDim S32768x2816 ![] bcast_S_S32768x2816 (constant S_ .f32 0x3F800000#32))
        (addf (broadcastInDim S32768x2816 ![] bcast_S_S32768x2816 (constant S_ .f32 0x3F800000#32))
          (Host.exp (Host.negf (extractStridedSlice S32768x2816 ![0, 0]
            (Host.dotGeneral dot_S32768x1024_S1024x5632_S32768x5632_1_0_0_1_n_n none h (extf .f32 w bitsLt_bf16_f32))
            slices_S32768x5632_S32768x2816_0_0))))))
    (extractStridedSlice S32768x2816 ![0, 2816] (Host.dotGeneral dot_S32768x1024_S1024x5632_S32768x5632_1_0_0_1_n_n none h
      (extf .f32 w bitsLt_bf16_f32)) slices_S32768x5632_S32768x2816_0_2816)

theorem hiddenFirst_apply (h : FVec Ideal S32768x1024 .f32) (w : FVec Ideal S1024x5632 .bf16) (j : Fin 2816) :
    hiddenFirst h w (ix2 r j) = gated (fun k => h (ix2 r k)) (fun k => w (ix2 k ⟨j.val, by omega⟩))
      (fun k => w (ix2 k ⟨2816 + j.val, by omega⟩)) := by
  pointwise [hiddenFirst]
  rfl

/-- The hidden rows projected back. -/
def projFirst (a : FVec Ideal S32768x2816 .f32) (w : FVec Ideal S2816x1024 .bf16) : FVec Ideal S32768x1024 .f32 :=
  Host.dotGeneral dot_S32768x2816_S2816x1024_S32768x1024_1_0_0_1_n_n none a (extf .f32 w bitsLt_bf16_f32)

theorem projFirst_apply (a : FVec Ideal S32768x2816 .f32) (w : FVec Ideal S2816x1024 .bf16) :
    projFirst a w (ix2 r l) = rowMul (fun k => a (ix2 r k)) (fun k l => w (ix2 k l)) l := by
  pointwise [projFirst]
  rfl

/-- The layer's result, by these parts. -/
def outFirst (W : Weights) : FVec Ideal S32768x1024 .f32 :=
  addf x (mulf (broadcastInDim S32768x1024 ![] bcast_S_S32768x1024 (constant S_ .f32 0x3F000000#32))
    (rmsFirst (projFirst (hiddenFirst (rmsFirst x W.gpre) W.win) W.wout) W.gpost))

theorem outFirst_apply (W : Weights) : outFirst x W (ix2 r l) = W.row (fun l => x (ix2 r l)) l := by
  pointwise [outFirst]
  simp only [rmsFirst_apply, projFirst_apply, hiddenFirst_apply]
  rfl

theorem resultFirst (W : Weights) : val_main_v34 (F := Ideal) x W.gpre W.gpost W.win W.wout = W.layer (n := 32768) x := by
  show outFirst x W = _
  funext i
  obtain ⟨r, l, rfl⟩ : ∃ (r : Fin 32768) (l : Fin 1024), i = ix2 r l := ⟨i 0, i 1, by
    funext a
    match a with
    | 0 => rfl
    | 1 => rfl⟩
  exact outFirst_apply x r l W

end First

/-! ## The rows of the samples -/

section Second

variable (x : FVec Ideal S1024x1024 .f32) (g : FVec Ideal S1x1024 .f32) (r : Fin 1024) (l : Fin 1024)

/-- Each row divided by its root mean square and scaled. -/
def rmsSecond : FVec Ideal S1024x1024 .f32 :=
  mulf (mulf x (broadcastInDim S1024x1024 ![0, 1] bcast_S1024x1_S1024x1024_0_1
      (Host.rsqrt (addf (Host.divf (broadcastInDim S1024x1 ![0] bcast_S1024_S1024x1_0
          (Host.reduceAdd (mulf x x) (constant S_ .f32 0x00000000#32) reducesTo_S1024x1024_S1024_d1 h_S_))
        (broadcastInDim S1024x1 ![] bcast_S_S1024x1 (constant S_ .f32 0x44800000#32)))
        (broadcastInDim S1024x1 ![] bcast_S_S1024x1 (constant S_ .f32 0x358637BD#32))))))
    (broadcastInDim S1024x1024 ![0, 1] bcast_S1x1024_S1024x1024_0_1 g)

theorem rmsSecond_apply : rmsSecond x g (ix2 r l) = rmsRow (fun l => x (ix2 r l)) (fun l => g (ix2 0 l)) l := by
  pointwise [rmsSecond]
  rfl

/-- The gated hidden rows. -/
def hiddenSecond (h : FVec Ideal S1024x1024 .f32) (w : FVec Ideal S1024x5632 .bf16) : FVec Ideal S1024x2816 .f32 :=
  mulf (mulf (extractStridedSlice S1024x2816 ![0, 0] (Host.dotGeneral dot_S1024x1024_S1024x5632_S1024x5632_1_0_0_1_n_n none h
        (extf .f32 w bitsLt_bf16_f32)) slices_S1024x5632_S1024x2816_0_0)
      (Host.divf (broadcastInDim S1024x2816 ![] bcast_S_S1024x2816 (constant S_ .f32 0x3F800000#32))
        (addf (broadcastInDim S1024x2816 ![] bcast_S_S1024x2816 (constant S_ .f32 0x3F800000#32))
          (Host.exp (Host.negf (extractStridedSlice S1024x2816 ![0, 0]
            (Host.dotGeneral dot_S1024x1024_S1024x5632_S1024x5632_1_0_0_1_n_n none h (extf .f32 w bitsLt_bf16_f32))
            slices_S1024x5632_S1024x2816_0_0))))))
    (extractStridedSlice S1024x2816 ![0, 2816] (Host.dotGeneral dot_S1024x1024_S1024x5632_S1024x5632_1_0_0_1_n_n none h
      (extf .f32 w bitsLt_bf16_f32)) slices_S1024x5632_S1024x2816_0_2816)

theorem hiddenSecond_apply (h : FVec Ideal S1024x1024 .f32) (w : FVec Ideal S1024x5632 .bf16) (j : Fin 2816) :
    hiddenSecond h w (ix2 r j) = gated (fun k => h (ix2 r k)) (fun k => w (ix2 k ⟨j.val, by omega⟩))
      (fun k => w (ix2 k ⟨2816 + j.val, by omega⟩)) := by
  pointwise [hiddenSecond]
  rfl

/-- The hidden rows projected back. -/
def projSecond (a : FVec Ideal S1024x2816 .f32) (w : FVec Ideal S2816x1024 .bf16) : FVec Ideal S1024x1024 .f32 :=
  Host.dotGeneral dot_S1024x2816_S2816x1024_S1024x1024_1_0_0_1_n_n none a (extf .f32 w bitsLt_bf16_f32)

theorem projSecond_apply (a : FVec Ideal S1024x2816 .f32) (w : FVec Ideal S2816x1024 .bf16) :
    projSecond a w (ix2 r l) = rowMul (fun k => a (ix2 r k)) (fun k l => w (ix2 k l)) l := by
  pointwise [projSecond]
  rfl

/-- The layer's result, by these parts. -/
def outSecond (W : Weights) : FVec Ideal S1024x1024 .f32 :=
  addf x (mulf (broadcastInDim S1024x1024 ![] bcast_S_S1024x1024 (constant S_ .f32 0x3F000000#32))
    (rmsSecond (projSecond (hiddenSecond (rmsSecond x W.gpre) W.win) W.wout) W.gpost))

theorem outSecond_apply (W : Weights) : outSecond x W (ix2 r l) = W.row (fun l => x (ix2 r l)) l := by
  pointwise [outSecond]
  simp only [rmsSecond_apply, projSecond_apply, hiddenSecond_apply]
  rfl

theorem resultSecond (W : Weights) : val_main_v69 (F := Ideal) x W.gpre W.gpost W.win W.wout = W.layer (n := 1024) x := by
  show outSecond x W = _
  funext i
  obtain ⟨r, l, rfl⟩ : ∃ (r : Fin 1024) (l : Fin 1024), i = ix2 r l := ⟨i 0, i 1, by
    funext a
    match a with
    | 0 => rfl
    | 1 => rfl⟩
  exact outSecond_apply x r l W

end Second

end Cert.Ffn.Ref

end
-- ==== Proof.MemIdealFrame.lean ====
/-
  The memory call's run (Kernel3Ideal): what its body leaves in its two blocks, the proof data of its pipeline, and its
  frame. Each block is filled by four stores, one head each, a head's rows four apart.
-/
module

public import proofs.«01_k».proof.Proof.Gen.Kernel3Ideal
public import proofs.«01_k».proof.Proof.Gen.Kernel3Ideal.Frame
public import Idealize.ShloMosaic.Lib.Claim

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The memory's rows, normalised. -/
def hid (x : Vec F S256x1024 .f32) (g : Vec F S1x1024 .f32) : FVec F S256x1024 .bf16 :=
  truncf .bf16 (mulf (mulf x (broadcastTo S256x1024 (rsqrt (addf (divf
        (shapeCast S256x1 (multiReduction .add [1] S256 (mulf x x) 0x00000000#32 reduces_S256x1024_S256 (.inl rfl) rfl) shapeCasts_S256_S256x1)
        (broadcast S256x1 (Scalar.ofBits .f32 0x44800000#32))) (broadcast S256x1 (Scalar.ofBits .f32 0x358637BD#32)))) broadcasts_S256x1_S256x1024))
      (broadcastTo S256x1024 g broadcasts_S1x1024_S256x1024)) bitsLt_bf16_f32

/-- Their keys and values: 512 columns of keys, then 512 of values. -/
def proj (x : Vec F S256x1024 .f32) (g : Vec F S1x1024 .f32) (w : Vec F S1024x1024 .bf16) : FVec F S256x1024 .f32 :=
  matmul dot_S256x1024_S1024x1024_S256x1024_1_0_0_1_n_n none (hid (View.ld x (Rect.unit ![0, 0] S256x1024.size inb_S256x1024_S256x1024_0_0))
      (View.ld g (Rect.unit ![0, 0] S1x1024.size inb_S1x1024_S1x1024_0_0)))
    (View.ld w (Rect.unit ![0, 0] S1024x1024.size inb_S1024x1024_S1024x1024_0_0)) (constant S256x1024 .f32 0x00000000#32)

/-- The rows of a block that belong to head 0, 1, 2 and 3. -/
abbrev head0 : Rect S1024x128 := ⟨⟨![0, 0], S256x128.size, ![4, 1], inb_S1024x128_S256x128_0_0_s_4_1⟩, spos_4_1⟩
abbrev head1 : Rect S1024x128 := ⟨⟨![1, 0], S256x128.size, ![4, 1], inb_S1024x128_S256x128_1_0_s_4_1⟩, spos_4_1⟩
abbrev head2 : Rect S1024x128 := ⟨⟨![2, 0], S256x128.size, ![4, 1], inb_S1024x128_S256x128_2_0_s_4_1⟩, spos_4_1⟩
abbrev head3 : Rect S1024x128 := ⟨⟨![3, 0], S256x128.size, ![4, 1], inb_S1024x128_S256x128_3_0_s_4_1⟩, spos_4_1⟩

/-- The four stores of the keys' block, the latest first. -/
def keyPieces (p : FVec F S256x1024 .f32) : List (View.Piece (Elt F) S1024x128 .f32) :=
  [⟨head3, extractStridedSlice S256x128 ![0, 384] p slices_S256x1024_o0_384_S256x128⟩,
   ⟨head2, extractStridedSlice S256x128 ![0, 256] p slices_S256x1024_o0_256_S256x128⟩,
   ⟨head1, extractStridedSlice S256x128 ![0, 128] p slices_S256x1024_o0_128_S256x128⟩,
   ⟨head0, extractStridedSlice S256x128 ![0, 0] p slices_S256x1024_o0_0_S256x128⟩]

/-- The four stores of the values' block. -/
def valuePieces (p : FVec F S256x1024 .f32) : List (View.Piece (Elt F) S1024x128 .f32) :=
  [⟨head3, extractStridedSlice S256x128 ![0, 896] p slices_S256x1024_o0_896_S256x128⟩,
   ⟨head2, extractStridedSlice S256x128 ![0, 768] p slices_S256x1024_o0_768_S256x128⟩,
   ⟨head1, extractStridedSlice S256x128 ![0, 640] p slices_S256x1024_o0_640_S256x128⟩,
   ⟨head0, extractStridedSlice S256x128 ![0, 512] p slices_S256x1024_o0_512_S256x128⟩]

/-- Every row of a block is some head's. -/
theorem heads (y : S1024x128.Idx) : y ∈ head0.set ∨ y ∈ head1.set ∨ y ∈ head2.set ∨ y ∈ head3.set := by
  have h0 : (y 0).val < 1024 := (y 0).isLt
  have h1 : (y 1).val < 128 := (y 1).isLt
  have e : ∀ (n : Nat) (inb), (y 0).val % 4 = n →
      y ∈ (⟨⟨![n, 0], S256x128.size, ![4, 1], inb⟩, spos_4_1⟩ : Rect S1024x128).set := fun n inb h => by
    refine (LoadRect.mem_set _).2 fun a => ?_
    match a with
    | 0 => exact ⟨(y 0).val / 4, show (y 0).val / 4 < 256 by omega, show (y 0).val = n + 4 * ((y 0).val / 4) by omega⟩
    | 1 => exact ⟨(y 1).val, h1, show (y 1).val = 0 + 1 * (y 1).val by omega⟩
  have : (y 0).val % 4 = 0 ∨ (y 0).val % 4 = 1 ∨ (y 0).val % 4 = 2 ∨ (y 0).val % 4 = 3 := by omega
  exact this.imp (e 0 _) (Or.imp (e 1 _) (Or.imp (e 2 _) (e 3 _)))

theorem keyCover (p : FVec F S256x1024 .f32) (y : S1024x128.Idx) : ∃ q ∈ keyPieces p, y ∈ q.1.set := by
  unfold keyPieces
  rcases heads y with h | h | h | h
  · exact ⟨_, .tail _ (.tail _ (.tail _ (.head _))), h⟩
  · exact ⟨_, .tail _ (.tail _ (.head _)), h⟩
  · exact ⟨_, .tail _ (.head _), h⟩
  · exact ⟨_, .head _, h⟩

theorem valueCover (p : FVec F S256x1024 .f32) (y : S1024x128.Idx) : ∃ q ∈ valuePieces p, y ∈ q.1.set := by
  unfold valuePieces
  rcases heads y with h | h | h | h
  · exact ⟨_, .tail _ (.tail _ (.tail _ (.head _))), h⟩
  · exact ⟨_, .tail _ (.tail _ (.head _)), h⟩
  · exact ⟨_, .tail _ (.head _), h⟩
  · exact ⟨_, .head _, h⟩

/-- The keys' and the values' block. -/
def keys (x : Vec F S256x1024 .f32) (g : Vec F S1x1024 .f32) (w : Vec F S1024x1024 .bf16) : Vec F S1024x128 .f32 :=
  View.canon (keyPieces (proj x g w))
def vals (x : Vec F S256x1024 .f32) (g : Vec F S1x1024 .f32) (w : Vec F S1024x1024 .bf16) : Vec F S1024x128 .f32 :=
  View.canon (valuePieces (proj x g w))

/-- The body's end: each head's columns are stored in its rows. -/
def stores (arg4 arg5 : Memref sig .tc .vmem S1024x128 .f32) (p : FVec F S256x1024 .f32) : Prog (TpuEff nD τ sig (Elt F) Λ₀ .tc) PUnit := do
  let _ : Vec F S256x128 .f32 ← Prog.lift (.load arg4 (⟨![0, 0], S256x128.size, ![4, 1], inb_S1024x128_S256x128_0_0_s_4_1⟩ : LoadRect S1024x128) (View.loadsAt_vmem h_S256x128))
  Prog.lift (.store arg4 ⟨(⟨![0, 0], S256x128.size, ![4, 1], inb_S1024x128_S256x128_0_0_s_4_1⟩ : LoadRect S1024x128), spos_4_1⟩ (extractStridedSlice S256x128 ![0, 0] p slices_S256x1024_o0_0_S256x128) Finset.univ (View.stores_vmem_bits_univ h_S256x128 rfl) (.inl rfl))
  let _ : Vec F S256x128 .f32 ← Prog.lift (.load arg5 (⟨![0, 0], S256x128.size, ![4, 1], inb_S1024x128_S256x128_0_0_s_4_1⟩ : LoadRect S1024x128) (View.loadsAt_vmem h_S256x128))
  Prog.lift (.store arg5 ⟨(⟨![0, 0], S256x128.size, ![4, 1], inb_S1024x128_S256x128_0_0_s_4_1⟩ : LoadRect S1024x128), spos_4_1⟩ (extractStridedSlice S256x128 ![0, 512] p slices_S256x1024_o0_512_S256x128) Finset.univ (View.stores_vmem_bits_univ h_S256x128 rfl) (.inl rfl))
  let _ : Vec F S256x128 .f32 ← Prog.lift (.load arg4 (⟨![1, 0], S256x128.size, ![4, 1], inb_S1024x128_S256x128_1_0_s_4_1⟩ : LoadRect S1024x128) (View.loadsAt_vmem h_S256x128))
  Prog.lift (.store arg4 ⟨(⟨![1, 0], S256x128.size, ![4, 1], inb_S1024x128_S256x128_1_0_s_4_1⟩ : LoadRect S1024x128), spos_4_1⟩ (extractStridedSlice S256x128 ![0, 128] p slices_S256x1024_o0_128_S256x128) Finset.univ (View.stores_vmem_bits_univ h_S256x128 rfl) (.inl rfl))
  let _ : Vec F S256x128 .f32 ← Prog.lift (.load arg5 (⟨![1, 0], S256x128.size, ![4, 1], inb_S1024x128_S256x128_1_0_s_4_1⟩ : LoadRect S1024x128) (View.loadsAt_vmem h_S256x128))
  Prog.lift (.store arg5 ⟨(⟨![1, 0], S256x128.size, ![4, 1], inb_S1024x128_S256x128_1_0_s_4_1⟩ : LoadRect S1024x128), spos_4_1⟩ (extractStridedSlice S256x128 ![0, 640] p slices_S256x1024_o0_640_S256x128) Finset.univ (View.stores_vmem_bits_univ h_S256x128 rfl) (.inl rfl))
  let _ : Vec F S256x128 .f32 ← Prog.lift (.load arg4 (⟨![2, 0], S256x128.size, ![4, 1], inb_S1024x128_S256x128_2_0_s_4_1⟩ : LoadRect S1024x128) (View.loadsAt_vmem h_S256x128))
  Prog.lift (.store arg4 ⟨(⟨![2, 0], S256x128.size, ![4, 1], inb_S1024x128_S256x128_2_0_s_4_1⟩ : LoadRect S1024x128), spos_4_1⟩ (extractStridedSlice S256x128 ![0, 256] p slices_S256x1024_o0_256_S256x128) Finset.univ (View.stores_vmem_bits_univ h_S256x128 rfl) (.inl rfl))
  let _ : Vec F S256x128 .f32 ← Prog.lift (.load arg5 (⟨![2, 0], S256x128.size, ![4, 1], inb_S1024x128_S256x128_2_0_s_4_1⟩ : LoadRect S1024x128) (View.loadsAt_vmem h_S256x128))
  Prog.lift (.store arg5 ⟨(⟨![2, 0], S256x128.size, ![4, 1], inb_S1024x128_S256x128_2_0_s_4_1⟩ : LoadRect S1024x128), spos_4_1⟩ (extractStridedSlice S256x128 ![0, 768] p slices_S256x1024_o0_768_S256x128) Finset.univ (View.stores_vmem_bits_univ h_S256x128 rfl) (.inl rfl))
  let _ : Vec F S256x128 .f32 ← Prog.lift (.load arg4 (⟨![3, 0], S256x128.size, ![4, 1], inb_S1024x128_S256x128_3_0_s_4_1⟩ : LoadRect S1024x128) (View.loadsAt_vmem h_S256x128))
  Prog.lift (.store arg4 ⟨(⟨![3, 0], S256x128.size, ![4, 1], inb_S1024x128_S256x128_3_0_s_4_1⟩ : LoadRect S1024x128), spos_4_1⟩ (extractStridedSlice S256x128 ![0, 384] p slices_S256x1024_o0_384_S256x128) Finset.univ (View.stores_vmem_bits_univ h_S256x128 rfl) (.inl rfl))
  let _ : Vec F S256x128 .f32 ← Prog.lift (.load arg5 (⟨![3, 0], S256x128.size, ![4, 1], inb_S1024x128_S256x128_3_0_s_4_1⟩ : LoadRect S1024x128) (View.loadsAt_vmem h_S256x128))
  Prog.lift (.store arg5 ⟨(⟨![3, 0], S256x128.size, ![4, 1], inb_S1024x128_S256x128_3_0_s_4_1⟩ : LoadRect S1024x128), spos_4_1⟩ (extractStridedSlice S256x128 ![0, 896] p slices_S256x1024_o0_896_S256x128) Finset.univ (View.stores_vmem_bits_univ h_S256x128 rfl) (.inl rfl))
  pure ⟨⟩

/-- The body: three loads, then the stores. -/
def body (arg1 : Memref sig .tc .vmem S256x1024 .f32) (arg2 : Memref sig .tc .vmem S1x1024 .f32) (arg3 : Memref sig .tc .vmem S1024x1024 .bf16)
    (arg4 arg5 : Memref sig .tc .vmem S1024x128 .f32) : Prog (TpuEff nD τ sig (Elt F) Λ₀ .tc) PUnit := do
  let x : Vec F S256x1024 .f32 ← Prog.lift (.load arg1 (Rect.unit (s := S256x1024) ![0, 0] S256x1024.size inb_S256x1024_S256x1024_0_0).toLoadRect (View.loadsAt_vmem h_S256x1024))
  let g : Vec F S1x1024 .f32 ← Prog.lift (.load arg2 (Rect.unit (s := S1x1024) ![0, 0] S1x1024.size inb_S1x1024_S1x1024_0_0).toLoadRect (View.loadsAt_vmem h_S1x1024))
  let w : Vec F S1024x1024 .bf16 ← Prog.lift (.load arg3 (Rect.unit (s := S1024x1024) ![0, 0] S1024x1024.size inb_S1024x1024_S1024x1024_0_0).toLoadRect (View.loadsAt_vmem h_S1024x1024))
  stores arg4 arg5 (matmul dot_S256x1024_S1024x1024_S256x1024_1_0_0_1_n_n none (hid x g) w (constant S256x1024 .f32 0x00000000#32))

theorem body_eq (i : grid0.Coords)
    (arg1 : Memref sig .tc .vmem S256x1024 .f32) (harg1 : arg1.IsWhole)
    (arg2 : Memref sig .tc .vmem S1x1024 .f32) (harg2 : arg2.IsWhole)
    (arg3 : Memref sig .tc .vmem S1024x1024 .bf16) (harg3 : arg3.IsWhole)
    (arg4 : Memref sig .tc .vmem S1024x128 .f32) (harg4 : arg4.IsWhole)
    (arg5 : Memref sig .tc .vmem S1024x128 .f32) (harg5 : arg5.IsWhole) :
    cc0_mem_kv (F := F) i arg1 harg1 arg2 harg2 arg3 harg3 arg4 harg4 arg5 harg5 = body arg1 arg2 arg3 arg4 arg5 := rfl

set_option maxHeartbeats 1000000 in
/-- The stores on whole staging buffers: they write the two lists. -/
theorem stores_run (c : Dev nD) (arg4 : Memref sig .tc .vmem S1024x128 .f32) (harg4 : arg4.IsWhole)
    (arg5 : Memref sig .tc .vmem S1024x128 .f32) (harg5 : arg5.IsWhole) (p : FVec F S256x1024 .f32) (E : Set ℕ) (K : PUnit → sProp 𝕄) :
    iprop((∃ d, owns (c : Thread nD τ) arg4 fullShare d) ∗ (∃ d, owns (c : Thread nD τ) arg5 fullShare d)
        ∗ (iprop(owns (c : Thread nD τ) arg4 fullShare (View.canon (keyPieces p)) ∗ owns (c : Thread nD τ) arg5 fullShare (View.canon (valuePieces p))) -∗ K ⟨⟩))
      ⊢ wp frame (wpE (defs₀ (F := F)) Variants.none c none) E (stores arg4 arg5 p) K := by
  unfold stores owns
  iintro ⟨⟨%d4, %f4, -, H4⟩, ⟨%d5, %f5, -, H5⟩, Hk⟩
  sl_exec
  sl_step
  iapply Hk
  isplitl [H4]
  · iexists arg4.view.writes (Elt F) f4 (keyPieces p); isplitr
    · ipureintro; exact View.read_writes_eq_canon _ _ _ (keyCover p)
    iexact H4
  iexists arg5.view.writes (Elt F) f5 (valuePieces p); isplitr
  · ipureintro; exact View.read_writes_eq_canon _ _ _ (valueCover p)
  iexact H5

set_option maxHeartbeats 1000000 in
/-- The body on whole staging buffers: it fills both results' blocks. -/
theorem run0_block (c : Dev nD) (i : grid0.Coords)
    (arg1 : Memref sig .tc .vmem S256x1024 .f32) (harg1 : arg1.IsWhole)
    (arg2 : Memref sig .tc .vmem S1x1024 .f32) (harg2 : arg2.IsWhole)
    (arg3 : Memref sig .tc .vmem S1024x1024 .bf16) (harg3 : arg3.IsWhole)
    (arg4 : Memref sig .tc .vmem S1024x128 .f32) (harg4 : arg4.IsWhole)
    (arg5 : Memref sig .tc .vmem S1024x128 .f32) (harg5 : arg5.IsWhole)
    (x : Vec F S256x1024 .f32) (g : Vec F S1x1024 .f32) (w : Vec F S1024x1024 .bf16)
    (E : Set ℕ) (K : PUnit → sProp 𝕄) :
    iprop(owns (c : Thread nD τ) arg1 fullShare x ∗ owns (c : Thread nD τ) arg2 fullShare g ∗ owns (c : Thread nD τ) arg3 fullShare w ∗ (∃ d, owns (c : Thread nD τ) arg4 fullShare d) ∗ (∃ d, owns (c : Thread nD τ) arg5 fullShare d)
        ∗ (iprop(owns (c : Thread nD τ) arg1 fullShare x ∗ owns (c : Thread nD τ) arg2 fullShare g ∗ owns (c : Thread nD τ) arg3 fullShare w ∗ owns (c : Thread nD τ) arg4 fullShare (keys x g w) ∗ owns (c : Thread nD τ) arg5 fullShare (vals x g w)) -∗ K ⟨⟩))
      ⊢ wp frame (wpE (defs₀ (F := F)) Variants.none c none) E (cc0_mem_kv i arg1 harg1 arg2 harg2 arg3 harg3 arg4 harg4 arg5 harg5) K := by
  have e : proj (arg1.view.read (Elt F) (harg1.unread x)) (arg2.view.read (Elt F) (harg2.unread g)) (arg3.view.read (Elt F) (harg3.unread w))
      = proj x g w := by rw [harg1.read_unread, harg2.read_unread, harg3.read_unread]
  rw [body_eq]; unfold body keys vals; rw [← e]
  iintro ⟨H1, H2, H3, H4, H5, Hk⟩
  unfold owns
  icases H1 with ⟨%f1, %hf1, H1⟩
  icases H2 with ⟨%f2, %hf2, H2⟩
  icases H3 with ⟨%f3, %hf3, H3⟩
  obtain rfl := harg1.eq_unread hf1; obtain rfl := harg2.eq_unread hf2; obtain rfl := harg3.eq_unread hf3
  sl_exec
  iapply (stores_run c arg4 harg4 arg5 harg5 (proj (arg1.view.read (Elt F) (harg1.unread x)) (arg2.view.read (Elt F) (harg2.unread g))
    (arg3.view.read (Elt F) (harg3.unread w))) E K)
  isplitl [H4]; · iexact H4
  isplitl [H5]; · iexact H5
  unfold owns
  iintro ⟨H4, H5⟩
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]; · iexact H4
  iexact H5

variable (m : (ℓ : Loc nD τ sig) → Buf (Elt F) ℓ) (ρ : Dev nD → PrngReg)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => keys (iblk m c 0 t) (iblk m c 1 t) (iblk m c 2 t)
    | ⟨4, _⟩ => vals (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = keys (iblk m c 0 t) (iblk m c 1 t) (iblk m c 2 t) := by
  dsimp only [dats]
theorem after_4 (c : Dev nD) (t : Fin cfg0.N) : (dats m 0 c).after 4 t = vals (iblk m c 0 t) (iblk m c 1 t) (iblk m c 2 t) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What a point leaves in a window's buffer: no window is ever left alone. -/
theorem leaves (c : Dev nD) (t : Fin cfg0.N) (w : Fin cfg0.W) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 1600000 in
/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves m c t 0 rfl, leaves m c t 1 rfl, leaves m c t 2 rfl, leaves m c t 3 rfl, leaves m c t 4 rfl]
  simp only [before_0, before_1, before_2, after_0, after_1, after_2, after_3, after_4]
  rw [show (dats m 0 c).Φ t.succ = (dats m 0 c).Φ t.castSucc from rfl,
    show (dats m 0 c).owesAt () t.succ = (dats m 0 c).owesAt () t.castSucc from rfl]
  iintro ⟨HΦ, Ho, ⟨%d1, H1⟩, ⟨%d2, H2⟩, ⟨%d3, H3⟩, ⟨%d4, H4⟩, ⟨%d5, H5⟩⟩
  iapply (run0_block c (grid0.coords t) _ _ _ _ _ _ _ _ _ _ (iblk m c 0 t) (iblk m c 1 t) (iblk m c 2 t) Set.univ _)
  isplitl [H1]; · iexact H1
  isplitl [H2]; · iexact H2
  isplitl [H3]; · iexact H3
  isplitl [H4]; · iexists _; iexact H4
  isplitl [H5]; · iexists _; iexact H5
  iintro ⟨H1, H2, H3, H4, H5⟩
  isplitl [HΦ]; · iexact HΦ
  isplitl [Ho]; · iexact Ho
  isplitl [H1]; · iexact H1
  isplitl [H2]; · iexact H2
  isplitl [H3]; · iexact H3
  isplitl [H4]; · iexact H4
  iexact H5

/-- The table's row for the body at a point. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The launch: the arrays end at what the proof data say, and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

/-- The frame: the arguments end as they were, and no semaphore is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiet m ρ))

end Cert.Kernel3Ideal.Body

end
-- ==== Proof.MemRows.lean ====
/-
  The memory's keys and values in extended reals: row r of either array is head r mod 4 of memory row r / 4. The kernel and
  the reference are each read as this function.
-/
module

public import proofs.«01_k».proof.Proof.Rows

@[expose] public section

noncomputable section

namespace Cert.Mem

open Idealize.ShloMosaic Cert.Mix

/-- The heads of the normalised rows' product with the weights, from column `off` on, 128 columns each. -/
def heads (off : ℕ) (hoff : off ≤ 512) (x : (⟨2, ![512, 1024]⟩ : Shape).Idx → EReal) (g : (⟨2, ![1, 1024]⟩ : Shape).Idx → EReal)
    (w : (⟨2, ![1024, 1024]⟩ : Shape).Idx → EReal) (r : Fin 2048) (d : Fin 128) : EReal :=
  rowMul (rmsRow (fun l => x (ix2 ⟨r.val / 4, by omega⟩ l)) fun l => g (ix2 0 l)) (fun k l => w (ix2 k l))
    (⟨off + 128 * (r.val % 4) + d.val, by omega⟩ : Fin 1024)

/-- The keys: the first 512 columns. -/
def keys (x : (⟨2, ![512, 1024]⟩ : Shape).Idx → EReal) (g : (⟨2, ![1, 1024]⟩ : Shape).Idx → EReal)
    (w : (⟨2, ![1024, 1024]⟩ : Shape).Idx → EReal) (i : (⟨2, ![2048, 128]⟩ : Shape).Idx) : EReal :=
  heads 0 (by omega) x g w (i 0) (i 1)

/-- The values: the other 512. -/
def vals (x : (⟨2, ![512, 1024]⟩ : Shape).Idx → EReal) (g : (⟨2, ![1, 1024]⟩ : Shape).Idx → EReal)
    (w : (⟨2, ![1024, 1024]⟩ : Shape).Idx → EReal) (i : (⟨2, ![2048, 128]⟩ : Shape).Idx) : EReal :=
  heads 512 le_rfl x g w (i 0) (i 1)

end Cert.Mem

end
-- ==== Proof.MemValue.lean ====
/-
  The memory kernel's two result arrays are the keys and the values: a block is read at an index, the windows are the
  arguments at the rows the grid point stages, and the blocks cover each array.
-/
module

public import proofs.«01_k».proof.Proof.MemIdealFrame
public import proofs.«01_k».proof.Proof.MemRows
public import Idealize.ShloMosaic.Lib.Pointwise
public import Idealize.ShloMosaic.Lib.Pipeline.ValueKit
public import Idealize.ShloMosaic.Lib.Pipeline.ValueKit.Point

@[expose] public section

set_option maxRecDepth 16384

noncomputable section

namespace Cert.Kernel3Ideal.Body

open Cert.Kernel3Ideal Cert.Kernel3Ideal.Gen Cert.Mix
open Idealize.ShloMosaic Idealize.ShloMosaic.TcCoe Idealize.SL.Sem

/-! ## A block at an index -/

theorem hid_apply (x : Vec Ideal S256x1024 .f32) (g : Vec Ideal S1x1024 .f32) (r : Fin 256) (l : Fin 1024) :
    hid x g (ix2 r l) = rmsRow (fun l => x (ix2 r l)) (fun l => g (ix2 0 l)) l := by
  pointwise [hid]
  rfl

/-- The whole of an array of 1024 columns, loaded, is the array. -/
theorem ld_whole {n : ℕ} {e : EltTy} (y : Vec Ideal ⟨2, ![n, 1024]⟩ e) (inb) :
    View.ld y (Rect.unit (s := ⟨2, ![n, 1024]⟩) ![0, 0] (⟨2, ![n, 1024]⟩ : Shape).size inb) = y := funext fun i =>
  congrArg y (funext fun a => match a with
    | 0 => Fin.ext (show 0 + 1 * (i 0).val = (i 0).val by omega)
    | 1 => Fin.ext (show 0 + 1 * (i 1).val = (i 1).val by omega))

theorem proj_apply (x : Vec Ideal S256x1024 .f32) (g : Vec Ideal S1x1024 .f32) (w : Vec Ideal S1024x1024 .bf16) (r : Fin 256) (l : Fin 1024) :
    proj x g w (ix2 r l) = rowMul (rmsRow (fun l => x (ix2 r l)) fun l => g (ix2 0 l)) (fun k l => w (ix2 k l)) l := by
  unfold proj
  rw [ld_whole x, ld_whole g, ld_whole w]
  have h : ∀ h : FVec Ideal S256x1024 .bf16, matmul (φ₂ := .bf16) dot_S256x1024_S1024x1024_S256x1024_1_0_0_1_n_n none h w (constant S256x1024 .f32 0x00000000#32) (ix2 r l)
      = rowMul (fun k => h (ix2 r k)) (fun k l => w (ix2 k l)) l := fun h => by
    pointwise []
    rfl
  rw [h]
  simp only [hid_apply]

/-- A row outside a head. -/
theorem not_head {n : Nat} {inb} {r : Fin 1024} {d : Fin 128} (h : r.val % 4 ≠ n) (hn : n < 4) :
    (ix2 r d : S1024x128.Idx) ∉ (⟨⟨![n, 0], S256x128.size, ![4, 1], inb⟩, spos_4_1⟩ : Rect S1024x128).set := fun hm => by
  obtain ⟨j, -, hj⟩ := (LoadRect.mem_set _).1 hm 0
  have hj : r.val = n + 4 * j := hj
  omega

/-- A row of a head, by its place in it. -/
theorem in_head {n : Nat} {inb} {r : Fin 1024} {d : Fin 128} (h : r.val % 4 = n) :
    (ix2 r d : S1024x128.Idx) = (⟨⟨![n, 0], S256x128.size, ![4, 1], inb⟩, spos_4_1⟩ : Rect S1024x128).emb
      (ix2 (⟨r.val / 4, by omega⟩ : Fin 256) d) := by
  funext a
  match a with
  | 0 => exact Fin.ext (show r.val = n + 4 * (r.val / 4) by omega)
  | 1 => exact Fin.ext (show d.val = 0 + 1 * d.val by omega)

/-- What four stores leave in a row: what was stored for the row's head. -/
theorem canon_heads (v0 v1 v2 v3 : FVec Ideal S256x128 .f32) (r : Fin 1024) (d : Fin 128) (z : EReal)
    (h0 : r.val % 4 = 0 → v0 (ix2 ⟨r.val / 4, by omega⟩ d) = z) (h1 : r.val % 4 = 1 → v1 (ix2 ⟨r.val / 4, by omega⟩ d) = z)
    (h2 : r.val % 4 = 2 → v2 (ix2 ⟨r.val / 4, by omega⟩ d) = z) (h3 : r.val % 4 = 3 → v3 (ix2 ⟨r.val / 4, by omega⟩ d) = z) :
    View.canon ([⟨head3, v3⟩, ⟨head2, v2⟩, ⟨head1, v1⟩, ⟨head0, v0⟩] : List (View.Piece (Elt Ideal) S1024x128 .f32)) (ix2 r d) = z := by
  have n1 : r.val % 4 ≠ 1 → (ix2 r d : S1024x128.Idx) ∉ head1.set := fun h => not_head h (by omega)
  have n2 : r.val % 4 ≠ 2 → (ix2 r d : S1024x128.Idx) ∉ head2.set := fun h => not_head h (by omega)
  have n3 : r.val % 4 ≠ 3 → (ix2 r d : S1024x128.Idx) ∉ head3.set := fun h => not_head h (by omega)
  have s3 := fun h L => View.canon_cons_of_not_mem (Val := Elt Ideal) (s := S1024x128) (e := .f32) ⟨head3, v3⟩ L (n3 h)
  have s2 := fun h L => View.canon_cons_of_not_mem (Val := Elt Ideal) (s := S1024x128) (e := .f32) ⟨head2, v2⟩ L (n2 h)
  have s1 := fun h L => View.canon_cons_of_not_mem (Val := Elt Ideal) (s := S1024x128) (e := .f32) ⟨head1, v1⟩ L (n1 h)
  have : r.val % 4 = 0 ∨ r.val % 4 = 1 ∨ r.val % 4 = 2 ∨ r.val % 4 = 3 := by omega
  rcases this with h | h | h | h
  · refine (s3 (by omega) _).trans ((s2 (by omega) _).trans ((s1 (by omega) _).trans ?_))
    have e : (ix2 r d : S1024x128.Idx) = head0.emb (ix2 (⟨r.val / 4, by omega⟩ : Fin 256) d) := in_head h
    rw [e]
    exact (View.canon_cons_emb (Val := Elt Ideal) (e := .f32) head0 v0 _ (ix2 (⟨r.val / 4, by omega⟩ : Fin 256) d)).trans (h0 h)
  · refine (s3 (by omega) _).trans ((s2 (by omega) _).trans ?_)
    have e : (ix2 r d : S1024x128.Idx) = head1.emb (ix2 (⟨r.val / 4, by omega⟩ : Fin 256) d) := in_head h
    rw [e]
    exact (View.canon_cons_emb (Val := Elt Ideal) (e := .f32) head1 v1 _ (ix2 (⟨r.val / 4, by omega⟩ : Fin 256) d)).trans (h1 h)
  · refine (s3 (by omega) _).trans ?_
    have e : (ix2 r d : S1024x128.Idx) = head2.emb (ix2 (⟨r.val / 4, by omega⟩ : Fin 256) d) := in_head h
    rw [e]
    exact (View.canon_cons_emb (Val := Elt Ideal) (e := .f32) head2 v2 _ (ix2 (⟨r.val / 4, by omega⟩ : Fin 256) d)).trans (h2 h)
  · have e : (ix2 r d : S1024x128.Idx) = head3.emb (ix2 (⟨r.val / 4, by omega⟩ : Fin 256) d) := in_head h
    rw [e]
    exact (View.canon_cons_emb (Val := Elt Ideal) (e := .f32) head3 v3 _ (ix2 (⟨r.val / 4, by omega⟩ : Fin 256) d)).trans (h3 h)

/-- A slice of 128 columns at an index. -/
theorem slice_apply (p : FVec Ideal S256x1024 .f32) (o : ℕ) (hs) (r : Fin 256) (d : Fin 128) (l : Fin 1024) (h : l.val = o + d.val) :
    extractStridedSlice S256x128 ![0, o] p hs (ix2 r d) = p (ix2 r l) :=
  extractStridedSlice_apply (![0, o] : Fin 2 → ℕ) p hs (ix2 r d) (ix2 r l) (fun a => match a with
    | ⟨0, _⟩ => by show r.val = 0 + r.val; omega
    | ⟨1, _⟩ => by show l.val = o + d.val; exact h)

theorem keys_apply (x : Vec Ideal S256x1024 .f32) (g : Vec Ideal S1x1024 .f32) (w : Vec Ideal S1024x1024 .bf16) (r : Fin 1024) (d : Fin 128) :
    keys x g w (ix2 r d) = rowMul (rmsRow (fun l => x (ix2 ⟨r.val / 4, by omega⟩ l)) fun l => g (ix2 0 l)) (fun k l => w (ix2 k l))
      (⟨0 + 128 * (r.val % 4) + d.val, by omega⟩ : Fin 1024) := by
  rw [← proj_apply x g w ⟨r.val / 4, by omega⟩]
  exact canon_heads _ _ _ _ r d _ (fun h => slice_apply _ _ _ _ _ _ (by simp only [h])) (fun h => slice_apply _ _ _ _ _ _ (by simp only [h]))
    (fun h => slice_apply _ _ _ _ _ _ (by simp only [h])) fun h => slice_apply _ _ _ _ _ _ (by simp only [h])

theorem vals_apply (x : Vec Ideal S256x1024 .f32) (g : Vec Ideal S1x1024 .f32) (w : Vec Ideal S1024x1024 .bf16) (r : Fin 1024) (d : Fin 128) :
    vals x g w (ix2 r d) = rowMul (rmsRow (fun l => x (ix2 ⟨r.val / 4, by omega⟩ l)) fun l => g (ix2 0 l)) (fun k l => w (ix2 k l))
      (⟨512 + 128 * (r.val % 4) + d.val, by omega⟩ : Fin 1024) := by
  rw [← proj_apply x g w ⟨r.val / 4, by omega⟩]
  exact canon_heads _ _ _ _ r d _ (fun h => slice_apply _ _ _ _ _ _ (by simp only [h])) (fun h => slice_apply _ _ _ _ _ _ (by simp only [h]))
    (fun h => slice_apply _ _ _ _ _ _ (by simp only [h])) fun h => slice_apply _ _ _ _ _ _ (by simp only [h])

/-! ## The windows -/

/-- The blocks each window stages at a grid point. -/
theorem place (t : Fin cfg0.N) :
    win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N,
    win0_0.index t = ![t.val, 0] ∧ win0_1.index t = ![0, 0] ∧ win0_2.index t = ![0, 0]
    ∧ win0_3.index t = ![t.val, 0] ∧ win0_4.index t = ![t.val, 0]) t

variable (m : (ℓ : Loc nD τ sig) → Buf (Elt Ideal) ℓ) (c : Dev nD) (t : Fin cfg0.N)

theorem point_lt : t.val < 2 := lt_of_lt_of_eq t.isLt (N_0 : cfg0.N = 2)

theorem win_x (r : Fin 256) (l : Fin 1024) : iblk m c 0 t (ix2 r l)
    = m ((c : Thread nD τ).loc main_arg0) (ix2 ⟨256 * t.val + r.val, by have := point_lt t; omega⟩ l) := by
  have ht := point_lt t
  have h : ∀ X : Buf (Elt Ideal) ((c : Thread nD τ).loc main_arg0), ((cfg0.win 0).blk t).view.read (Elt Ideal) X (ix2 r l)
      = X (ix2 ⟨256 * t.val + r.val, by omega⟩ l) := fun X => by blk_ext [place t]
  exact (h (V m c main_arg0)).trans (congrFun (V_main_arg0 m c) _)

theorem win_g : iblk m c 1 t = m ((c : Thread nD τ).loc main_arg1) := by
  have h : ∀ (X : Buf (Elt Ideal) ((c : Thread nD τ).loc main_arg1)) (i), ((cfg0.win 1).blk t).view.read (Elt Ideal) X i = X i :=
    fun X i => by blk_ext [place t]
  exact funext fun i => (h (V m c main_arg1) i).trans (congrFun (V_main_arg1 m c) _)

theorem win_w : iblk m c 2 t = m ((c : Thread nD τ).loc main_arg2) := by
  have h : ∀ (X : Buf (Elt Ideal) ((c : Thread nD τ).loc main_arg2)) (i), ((cfg0.win 2).blk t).view.read (Elt Ideal) X i = X i :=
    fun X i => by blk_ext [place t]
  exact funext fun i => (h (V m c main_arg2) i).trans (congrFun (V_main_arg2 m c) _)

/-! ## The result arrays -/

/-- A block's element is the array's, at the block's rows. -/
theorem heads_block (off : ℕ) (hoff : off ≤ 512) (r : Fin 1024) (d : Fin 128) :
    rowMul (rmsRow (fun l => iblk m c 0 t (ix2 ⟨r.val / 4, by omega⟩ l)) fun l => iblk m c 1 t (ix2 0 l)) (fun k l => iblk m c 2 t (ix2 k l))
        (⟨off + 128 * (r.val % 4) + d.val, by omega⟩ : Fin 1024)
      = Cert.Mem.heads off hoff (m ((c : Thread nD τ).loc main_arg0)) (m ((c : Thread nD τ).loc main_arg1)) (m ((c : Thread nD τ).loc main_arg2))
          ⟨1024 * t.val + r.val, by have := point_lt t; omega⟩ d := by
  have ht := point_lt t
  rw [win_g, win_w]
  unfold Cert.Mem.heads
  have e1 : ∀ l, iblk m c 0 t (ix2 ⟨r.val / 4, by omega⟩ l) = m ((c : Thread nD τ).loc main_arg0) (ix2 ⟨(1024 * t.val + r.val) / 4, by omega⟩ l) := fun l =>
    (win_x m c t ⟨r.val / 4, by omega⟩ l).trans
      (congrArg (fun n => m ((c : Thread nD τ).loc main_arg0) (ix2 n l)) (Fin.ext (show 256 * t.val + r.val / 4 = (1024 * t.val + r.val) / 4 by omega)))
  rw [funext e1]
  exact congrArg _ (Fin.ext (show off + 128 * (r.val % 4) + d.val = off + 128 * ((1024 * t.val + r.val) % 4) + d.val by omega))

theorem keys_value : (dats m 0 c).arrAt 3 cfg0.N
    = Cert.Mem.keys (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after_3]
  obtain ⟨r, d, rfl⟩ : ∃ (r : Fin 1024) (d : Fin 128), y = ix2 r d := ⟨y 0, y 1, by
    funext a
    match a with
    | 0 => rfl
    | 1 => rfl⟩
  have ht := point_lt t
  have he : (win0_3.blk t).view.emb (ix2 r d) = ix2 ⟨1024 * t.val + r.val, by omega⟩ d := by blk_ext [place t]
  refine Eq.trans ?_ (congrArg _ he).symm
  exact (keys_apply _ _ _ r d).trans (heads_block m c t 0 (by omega) r d)

theorem vals_value : (dats m 0 c).arrAt 4 cfg0.N
    = Cert.Mem.vals (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after_4]
  obtain ⟨r, d, rfl⟩ : ∃ (r : Fin 1024) (d : Fin 128), y = ix2 r d := ⟨y 0, y 1, by
    funext a
    match a with
    | 0 => rfl
    | 1 => rfl⟩
  have ht := point_lt t
  have he : (win0_4.blk t).view.emb (ix2 r d) = ix2 ⟨1024 * t.val + r.val, by omega⟩ d := by blk_ext [place t]
  refine Eq.trans ?_ (congrArg _ he).symm
  exact (vals_apply _ _ _ r d).trans (heads_block m c t 512 le_rfl r d)

/-- The run, with both result arrays named. -/
theorem run_value (ρ : Dev nD → PrngReg) :
    θ_run defs (onTc (τ := τ) (main (F := Ideal))) ⟨m, fun _ => 0, ρ⟩ fun r => ∀ c : Dev nD,
      r.2.mem ((c.tc : Thread nD τ).loc main_v0_0)
        = Cert.Mem.keys (m ((c : Thread nD τ).loc main_arg0)) (m ((c : Thread nD τ).loc main_arg1)) (m ((c : Thread nD τ).loc main_arg2))
      ∧ r.2.mem ((c.tc : Thread nD τ).loc main_v0_1)
        = Cert.Mem.vals (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (keys_value m c), ((h.1 c).1 4).trans (vals_value m c), h.2.1 c⟩)
    (θ_run_and (run m ρ) (frame m ρ))

end Cert.Kernel3Ideal.Body

end
-- ==== Proof.MemReference.lean ====
/-
  The memory reference's two results, read at an index in extended reals.
-/
module

public import proofs.«01_k».proof.Proof.Gen.Reference3Ideal.Read
public import proofs.«01_k».proof.Proof.MemRows
public import Idealize.ShloMosaic.Lib.Pointwise

@[expose] public section

set_option maxRecDepth 16384

noncomputable section

namespace Cert.Mem.Ref

open Cert.Reference3Ideal Cert.Reference3Ideal.Gen Cert.Reference3Ideal.Read Cert.Mix Cert.Mem Idealize.ShloMosaic

variable (x : FVec Ideal S512x1024 .f32) (g : FVec Ideal S1x1024 .f32) (w : FVec Ideal S1024x1024 .bf16)

/-- Each row divided by its root mean square and scaled. -/
def rms : FVec Ideal S512x1024 .f32 :=
  mulf (mulf x (broadcastInDim S512x1024 ![0, 1] bcast_S512x1_S512x1024_0_1
      (Host.rsqrt (addf (Host.divf (broadcastInDim S512x1 ![0] bcast_S512_S512x1_0
          (Host.reduceAdd (mulf x x) (constant S_ .f32 0x00000000#32) reducesTo_S512x1024_S512_d1 h_S_))
        (broadcastInDim S512x1 ![] bcast_S_S512x1 (constant S_ .f32 0x44800000#32)))
        (broadcastInDim S512x1 ![] bcast_S_S512x1 (constant S_ .f32 0x358637BD#32))))))
    (broadcastInDim S512x1024 ![0, 1] bcast_S1x1024_S512x1024_0_1 g)

theorem rms_apply (r : Fin 512) (l : Fin 1024) : rms x g (ix2 r l) = rmsRow (fun l => x (ix2 r l)) (fun l => g (ix2 0 l)) l := by
  pointwise [rms]
  rfl

/-- The product with the weights. -/
def proj (h : FVec Ideal S512x1024 .f32) : FVec Ideal S512x1024 .f32 :=
  Host.dotGeneral dot_S512x1024_S1024x1024_S512x1024_1_0_0_1_n_n none h (extf .f32 w bitsLt_bf16_f32)

theorem proj_apply (h : FVec Ideal S512x1024 .f32) (r : Fin 512) (l : Fin 1024) :
    proj w h (ix2 r l) = rowMul (fun k => h (ix2 r k)) (fun k l => w (ix2 k l)) l := by
  pointwise [proj]
  rfl

/-- A head's element, wherever its row and column are said to be. -/
theorem heads_eq (off : ℕ) (hoff : off ≤ 512) (r : Fin 2048) (d : Fin 128) (i : S512x1024.Idx) (h0 : (i 0).val = r.val / 4)
    (h1 : (i 1).val = off + 128 * (r.val % 4) + d.val) : proj w (rms x g) i = heads off hoff x g w r d := by
  have e : i = ix2 ⟨r.val / 4, by omega⟩ ⟨off + 128 * (r.val % 4) + d.val, by omega⟩ := by
    funext a
    match a with
    | 0 => exact Fin.ext h0
    | 1 => exact Fin.ext h1
  rw [e, proj_apply]
  simp only [rms_apply]
  rfl

theorem resultKeys : val_main_v16 (F := Ideal) x g w = keys x g w := by
  funext i
  have h0 : (i 0).val < 2048 := (i 0).isLt
  have h1 : (i 1).val < 128 := (i 1).isLt
  rw [val_main_v16_apply, val_main_v14_apply]
  exact heads_eq x g w 0 (by omega) (i 0) (i 1) _ (by show ((i 0).val * 128 + (i 1).val) / 512 = (i 0).val / 4; omega)
    (by show ((i 0).val * 128 + (i 1).val) % 512 = 0 + 128 * ((i 0).val % 4) + (i 1).val; omega)

theorem resultVals : val_main_v17 (F := Ideal) x g w = vals x g w := by
  funext i
  have h0 : (i 0).val < 2048 := (i 0).isLt
  have h1 : (i 1).val < 128 := (i 1).isLt
  rw [val_main_v17_apply, val_main_v15_apply]
  exact heads_eq x g w 512 le_rfl (i 0) (i 1) _ (by show ((i 0).val * 128 + (i 1).val) / 512 = (i 0).val / 4; omega)
    (by show 512 + ((i 0).val * 128 + (i 1).val) % 512 = 512 + 128 * ((i 0).val % 4) + (i 1).val; omega)

end Cert.Mem.Ref

end
-- ==== Proof.lean ====
/- For the mixer, the second feed-forward and the memory's keys and values: the frames of the three programs, the ledger of the idealization, and
   the value. -/
module

public import proofs.«01_k».proof.Defs
public import proofs.«01_k».proof.Proof.Gen.Kernel
public import proofs.«01_k».proof.Proof.Gen.Kernel.Frame
public import proofs.«01_k».proof.Proof.KernelValue
public import proofs.«01_k».proof.Proof.RefMerge
public import proofs.«01_k».proof.Proof.Precondition
public import proofs.«01_k».proof.Proof.FfnFrame
public import proofs.«01_k».proof.Proof.FfnValue
public import proofs.«01_k».proof.Proof.FfnReference
public import proofs.«01_k».proof.Proof.MemFrame
public import proofs.«01_k».proof.Proof.MemValue
public import proofs.«01_k».proof.Proof.MemReference
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2.Skeleton
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init

@[expose] public section

noncomputable section

namespace Cert.Proof

open Idealize.ShloMosaic Idealize.SL.Sem

/-- The reference's run leaves its arguments and its semaphores as they were: it declares no semaphore. -/
theorem refFrame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants are what their names say. -/
theorem preserves : Cert.preserves_Kernel_KernelIdeal :=
  ⟨IdealRules.named_const.statement Cert.KernelIdeal.κ "mask" .f32 0xF149F2CA#32 ⊥ rfl,
    IdealRules.named_const.statement Cert.KernelIdeal.κ "scale2" .f32 0x3E0293EE#32
      (((Real.sqrt 128)⁻¹ * (Real.log 2)⁻¹ : ℝ) : EReal) rfl⟩

/-- From arguments that agree the kernel and the reference end with the same result, `Args.result`. -/
theorem algebraic : Cert.algebraic_KernelIdeal_ReferenceIdeal_pre_finite_attention (hKernelIdeal := Cert.KernelIdeal.Gen.facts)
    (hReferenceIdeal := Cert.ReferenceIdeal.Gen.facts) (hPre_finite_attention := Cert.Mix.Pre.facts) := by
  intro m g m' g' hpre hagree
  have hA : ∀ c, (Cert.Mix.argsOf m c).Finite := fun c =>
    @Cert.Mix.Pre.finite_of Cert.Mix.Pre.facts (Cert.Mix.argsOf m c) (hpre c)
  refine ⟨fun c => (Cert.Mix.argsOf m c).result, ?_, ?_⟩
  · exact (θ_run _ _ _).mono (fun r h c => ⟨((h c).1).trans (Cert.Mix.kernel_value m c (hA c)), (h c).2⟩)
      (Cert.KernelIdeal.Value.run_blocks m g)
  · refine (θ_run _ _ _).mono (fun r h c => ⟨((h c).1).trans ?_, (h c).2⟩) (Cert.ReferenceIdeal.Value.run (F := Ideal) m' g')
    obtain ⟨h0, h1, h2, h3, h4, h5, h6, h7, h8, h9, h10, h11, h12, h13, h14, h15, h16⟩ := hagree c
    rw [Cert.ReferenceIdeal.Read.val_main_v145_eq, h0, h1, h2, h3, h4, h5, h6, h7, h8, h9, h10, h11, h12, h13, h14, h15, h16]
    exact Cert.Mix.Ref.result_eq (Cert.Mix.argsOf m c) (hA c)

/-- The feed-forward's reference, likewise. -/
theorem ffnRefFrame : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- From arguments that agree the feed-forward kernel and its reference end with the same two results, the layer of each
    array of rows. -/
theorem ffnAlgebraic : Cert.algebraic_Kernel2Ideal_Reference2Ideal (hKernel2Ideal := Cert.Kernel2Ideal.Gen.facts)
    (hReference2Ideal := Cert.Reference2Ideal.Gen.facts) := by
  intro m g m' g' _ hagree
  refine ⟨_, _, Cert.Kernel2Ideal.Body.run_value m g, ?_⟩
  refine (θ_run _ _ _).mono (fun r h c => ⟨(h c).1.trans ?_, (h c).2.1.trans ?_, (h c).2.2⟩)
    (Cert.Reference2Ideal.Value.run (F := Ideal) m' g')
  all_goals obtain ⟨h0, h1, h2, h3, h4, h5⟩ := hagree c
  · rw [Cert.Reference2Ideal.Read.val_main_v34_eq, h0, h2, h3, h4, h5]
    exact Cert.Ffn.Ref.resultFirst _ (Cert.Kernel2Ideal.Body.weightsOf m c)
  · rw [Cert.Reference2Ideal.Read.val_main_v69_eq, h1, h2, h3, h4, h5]
    exact Cert.Ffn.Ref.resultSecond _ (Cert.Kernel2Ideal.Body.weightsOf m c)

/-- The memory's reference, likewise. -/
theorem memRefFrame : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- From arguments that agree the memory kernel and its reference end with the same keys and values. -/
theorem memAlgebraic : Cert.algebraic_Kernel3Ideal_Reference3Ideal (hKernel3Ideal := Cert.Kernel3Ideal.Gen.facts)
    (hReference3Ideal := Cert.Reference3Ideal.Gen.facts) := by
  intro m g m' g' _ hagree
  refine ⟨_, _, Cert.Kernel3Ideal.Body.run_value m g, ?_⟩
  refine (θ_run _ _ _).mono (fun r h c => ⟨(h c).1.trans ?_, (h c).2.1.trans ?_, (h c).2.2⟩)
    (Cert.Reference3Ideal.Value.run (F := Ideal) m' g')
  all_goals obtain ⟨h0, h1, h2⟩ := hagree c
  · rw [Cert.Reference3Ideal.Read.val_main_v16_eq, h0, h1, h2]
    exact Cert.Mem.Ref.resultKeys _ _ _
  · rw [Cert.Reference3Ideal.Read.val_main_v17_eq, h0, h1, h2]
    exact Cert.Mem.Ref.resultVals _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Mix.Pre.facts,
  fun m ρ _ => Cert.Kernel.Gen.frame m ρ, fun m ρ _ => Cert.KernelIdeal.Gen.frame m ρ, fun m ρ _ => Cert.KernelIdeal.Gen.frame m ρ,
  refFrame, fun m ρ _ => refFrame m ρ trivial,
  fun m ρ _ => Cert.Kernel2.Body.frame m ρ, fun m ρ _ => Cert.Kernel2Ideal.Body.frame m ρ, ffnRefFrame,
  fun m ρ _ => Cert.Kernel3.Body.frame m ρ, fun m ρ _ => Cert.Kernel3Ideal.Body.frame m ρ, memRefFrame,
  preserves, algebraic, trivial, ffnAlgebraic, trivial, memAlgebraic⟩

end Cert.Proof

end
